-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_keys [hPre_finite_keys : Cert.Pre_finite_keys.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_keys.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))).1 = (fun _ => 1#1)
    ∧ (Cert.Pre_finite_keys.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))).2.1 = (fun _ => 1#1)
    ∧ (Cert.Pre_finite_keys.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_keys [hPre_finite_keys : Cert.Pre_finite_keys.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_keys.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))).1 = (fun _ => 1#1)
    ∧ (Cert.Pre_finite_keys.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))).2.1 = (fun _ => 1#1)
    ∧ (Cert.Pre_finite_keys.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Kernel8Ideal_pre_finite_keys [hKernel8Ideal : Cert.Kernel8Ideal.Facts] [hPre_finite_keys : Cert.Pre_finite_keys.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_keys m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Reference8Ideal_pre_finite_keys [hReference8Ideal : Cert.Reference8Ideal.Facts] [hPre_finite_keys : Cert.Pre_finite_keys.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_keys m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_keys [hKernel8Ideal : Cert.Kernel8Ideal.Facts] [hReference8Ideal : Cert.Reference8Ideal.Facts] [hPre_finite_keys : Cert.Pre_finite_keys.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_keys m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v67)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v67) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v190) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_gains : Cert.Pre_finite_gains.Facts) (hPre_finite_keys : Cert.Pre_finite_keys.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_keys (hKernel8Ideal := hKernel8Ideal) (hPre_finite_keys := hPre_finite_keys)
    ∧ quiescent_Reference8Ideal (hReference8Ideal := hReference8Ideal)
    ∧ quiescent_Reference8Ideal_pre_finite_keys (hReference8Ideal := hReference8Ideal) (hPre_finite_keys := hPre_finite_keys)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_keys (hKernel8Ideal := hKernel8Ideal) (hReference8Ideal := hReference8Ideal) (hPre_finite_keys := hPre_finite_keys)
-- ==== Pre_finite_gains.lean ====
abbrev S50x12288x128 : Shape := ⟨3, ![50, 12288, 128]⟩
abbrev S64 : Shape := ⟨1, ![64]⟩
abbrev S128 : Shape := ⟨1, ![128]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S50x12288x128 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S128 .f32) : IVec S64 1 × IVec S64 1 :=
  let main_v0 : FVec F S64 .f32 := Host.absf main_arg5
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg6
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  (main_v2, main_v5)
-- ==== Pre_finite_keys.lean ====
abbrev S50x12288x128 : Shape := ⟨3, ![50, 12288, 128]⟩
abbrev S2x256x8x2x64 : Shape := ⟨5, ![2, 256, 8, 2, 64]⟩
abbrev S2x256x8x128 : Shape := ⟨4, ![2, 256, 8, 128]⟩
abbrev S64 : Shape := ⟨1, ![64]⟩
abbrev S128 : Shape := ⟨1, ![128]⟩
abbrev S_ : Shape := ⟨0, ![]⟩

class Facts : Prop where
  bcast_S_S64 : S_.BroadcastsInDim S64 (![] : Fin 0 → Fin S64.rank)
  bcast_S_S2x256x8x2x64 : S_.BroadcastsInDim S2x256x8x2x64 (![] : Fin 0 → Fin S2x256x8x2x64.rank)

variable [Facts]

def fn {F : FTy → Type} [FloatOps F] (main_arg0 : FVec F S50x12288x128 .f32) (main_arg1 : FVec F S2x256x8x2x64 .f32) (main_arg2 : FVec F S2x256x8x128 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S128 .f32) : IVec S64 1 × IVec S64 1 × IVec S2x256x8x2x64 1 :=
  let main_v0 : FVec F S64 .f32 := Host.absf main_arg7
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg8
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S2x256x8x2x64 .f32 := Host.absf main_arg1
  let main_cst_1 : FVec F S_ .f32 := constant S_ .f32 0x7F800000#32
  let main_v7 : FVec F S2x256x8x2x64 .f32 := broadcastInDim S2x256x8x2x64 ![] bcast_S_S2x256x8x2x64 main_cst_1
  let main_v8 : IVec S2x256x8x2x64 1 := cmpf .olt main_v6 main_v7
  (main_v2, main_v5, main_v8)
-- ==== Kernel.lean ====
abbrev S50x12288x128 : Shape := ⟨3, ![50, 12288, 128]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1024 : Shape := ⟨2, ![8192, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x256 : Shape := ⟨2, ![256, 256]⟩

abbrev nBuf : Space → Nat
  | .hbm => 25
  | .vmem => 18
  | .smem => 0
  | _ => 0

abbrev bufTy : (tb : Table) → Fin (tcTables nBuf tb) → BufTy
  | .hbm, ⟨0, _⟩ => ⟨S50x12288x128, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S1x64, .f32⟩
  | .hbm, ⟨14, _⟩ => ⟨S1x1x1x64, .f32⟩
  | .hbm, ⟨15, _⟩ => ⟨S1x1x2x64, .f32⟩
  | .hbm, ⟨16, _⟩ => ⟨S1x128, .f32⟩
  | .hbm, ⟨17, _⟩ => ⟨S1x64, .f32⟩
  | .hbm, ⟨18, _⟩ => ⟨S1x1x1x64, .f32⟩
  | .hbm, ⟨19, _⟩ => ⟨S1x1x2x64, .f32⟩
  | .hbm, ⟨20, _⟩ => ⟨S1x128, .f32⟩
  | .hbm, ⟨21, _⟩ => ⟨S1x128, .f32⟩
  | .hbm, ⟨22, _⟩ => ⟨S8192x1024, .bf16⟩
  | .hbm, ⟨23, _⟩ => ⟨S8192x1024, .f32⟩
  | .hbm, ⟨24, _⟩ => ⟨S8192x1024, .f32⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S256x128, .bf16⟩
  | .local _ .vmem, ⟨11, _⟩ => ⟨S256x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .bf16⟩
  | .local _ .vmem, ⟨17, _⟩ => ⟨S256x128, .bf16⟩
  | _, _ => ⟨S50x12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![v0.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S50x12288x128 : Shape := ⟨3, ![50, 12288, 128]⟩
abbrev S64 : Shape := ⟨1, ![64]⟩
abbrev S128 : Shape := ⟨1, ![128]⟩
abbrev S8x8192x128 : Shape := ⟨3, ![8, 8192, 128]⟩
abbrev S8192x8x128 : Shape := ⟨3, ![8192, 8, 128]⟩
abbrev S32x256x1024 : Shape := ⟨3, ![32, 256, 1024]⟩
abbrev S32x256x8x2x64 : Shape := ⟨5, ![32, 256, 8, 2, 64]⟩
abbrev S_ : Shape := ⟨0, ![]⟩
abbrev S32x256x8x2 : Shape := ⟨4, ![32, 256, 8, 2]⟩
abbrev S32x256x8x2x1 : Shape := ⟨5, ![32, 256, 8, 2, 1]⟩
abbrev S1x1x1x1x64 : Shape := ⟨5, ![1, 1, 1, 1, 64]⟩
abbrev S32x256x8x128 : Shape := ⟨4, ![32, 256, 8, 128]⟩
abbrev S32x2x8x256x256 : Shape := ⟨5, ![32, 2, 8, 256, 256]⟩
abbrev S32x2x8x256 : Shape := ⟨4, ![32, 2, 8, 256]⟩
abbrev S32x2x8x256x1 : Shape := ⟨5, ![32, 2, 8, 256, 1]⟩
abbrev S32x1x8x256x256 : Shape := ⟨5, ![32, 1, 8, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S8192x1024 : Shape := ⟨2, ![8192, 1024]⟩

abbrev nBuf : Space → Nat
  | .hbm => 113
  | .vmem => 0
  | .smem => 0
  | _ => 0

abbrev bufTy : (tb : Table) → Fin (tcTables nBuf tb) → BufTy
  | .hbm, ⟨0, _⟩ => ⟨S50x12288x128, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x8192x128, .f32⟩
  | .hbm, ⟨9, _⟩ => ⟨S8192x8x128, .f32⟩
  | .hbm, ⟨10, _⟩ => ⟨S32x256x1024, .f32⟩
  | .hbm, ⟨11, _⟩ => ⟨S8x8192x128, .f32⟩
  | .hbm, ⟨12, _⟩ => ⟨S8192x8x128, .f32⟩
  | .hbm, ⟨13, _⟩ => ⟨S32x256x1024, .f32⟩
  | .hbm, ⟨14, _⟩ => ⟨S8x8192x128, .f32⟩
  | .hbm, ⟨15, _⟩ => ⟨S8192x8x128, .f32⟩
  | .hbm, ⟨16, _⟩ => ⟨S32x256x1024, .f32⟩
  | .hbm, ⟨17, _⟩ => ⟨S32x256x8x2x64, .f32⟩
  | .hbm, ⟨18, _⟩ => ⟨S32x256x8x2x64, .f32⟩
  | .hbm, ⟨19, _⟩ => ⟨S_, .f32⟩
  | .hbm, ⟨20, _⟩ => ⟨S32x256x8x2, .f32⟩
  | .hbm, ⟨21, _⟩ => ⟨S32x256x8x2x1, .f32⟩
  | .hbm, ⟨22, _⟩ => ⟨S_, .f32⟩
  | .hbm, ⟨23, _⟩ => ⟨S32x256x8x2x1, .f32⟩
  | .hbm, ⟨24, _⟩ => ⟨S32x256x8x2x1, .f32⟩
  | .hbm, ⟨25, _⟩ => ⟨S_, .f32⟩
  | .hbm, ⟨26, _⟩ => ⟨S32x256x8x2x1, .f32⟩
  | .hbm, ⟨27, _⟩ => ⟨S32x256x8x2x1, .f32⟩
  | .hbm, ⟨28, _⟩ => ⟨S32x256x8x2x1, .f32⟩
  | .hbm, ⟨29, _⟩ => ⟨S32x256x8x2x64, .f32⟩
  | .hbm, ⟨30, _⟩ => ⟨S32x256x8x2x64, .f32⟩
  | .hbm, ⟨31, _⟩ => ⟨S1x1x1x1x64, .f32⟩
  | .hbm, ⟨32, _⟩ => ⟨S32x256x8x2x64, .f32⟩
  | .hbm, ⟨33, _⟩ => ⟨S32x256x8x2x64, .f32⟩
  | .hbm, ⟨34, _⟩ => ⟨S32x256x8x2x64, .f32⟩
  | .hbm, ⟨35, _⟩ => ⟨S32x256x8x2x64, .f32⟩
  | .hbm, ⟨36, _⟩ => ⟨S_, .f32⟩
  | .hbm, ⟨37, _⟩ => ⟨S32x256x8x2, .f32⟩
  | .hbm, ⟨38, _⟩ => ⟨S32x256x8x2x1, .f32⟩
  | .hbm, ⟨39, _⟩ => ⟨S_, .f32⟩
  | .hbm, ⟨40, _⟩ => ⟨S32x256x8x2x1, .f32⟩
  | .hbm, ⟨41, _⟩ => ⟨S32x256x8x2x1, .f32⟩
  | .hbm, ⟨42, _⟩ => ⟨S_, .f32⟩
  | .hbm, ⟨43, _⟩ => ⟨S32x256x8x2x1, .f32⟩
  | .hbm, ⟨44, _⟩ => ⟨S32x256x8x2x1, .f32⟩
  | .hbm, ⟨45, _⟩ => ⟨S32x256x8x2x1, .f32⟩
  | .hbm, ⟨46, _⟩ => ⟨S32x256x8x2x64, .f32⟩
  | .hbm, ⟨47, _⟩ => ⟨S32x256x8x2x64, .f32⟩
  | .hbm, ⟨48, _⟩ => ⟨S1x1x1x1x64, .f32⟩
  | .hbm, ⟨49, _⟩ => ⟨S32x256x8x2x64, .f32⟩
  | .hbm, ⟨50, _⟩ => ⟨S32x256x8x2x64, .f32⟩
  | .hbm, ⟨51, _⟩ => ⟨S32x256x8x128, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x2x8x256x256, .f32⟩
  | .hbm, ⟨64, _⟩ => ⟨S_, .f32⟩
  | .hbm, ⟨65, _⟩ => ⟨S32x2x8x256x256, .f32⟩
  | .hbm, ⟨66, _⟩ => ⟨S32x2x8x256x256, .f32⟩
  | .hbm, ⟨67, _⟩ => ⟨S_, .f32⟩
  | .hbm, ⟨68, _⟩ => ⟨S32x2x8x256, .f32⟩
  | .hbm, ⟨69, _⟩ => ⟨S_, .f32⟩
  | .hbm, ⟨70, _⟩ => ⟨S32x2x8x256, .f32⟩
  | .hbm, ⟨71, _⟩ => ⟨S32x2x8x256, .f32⟩
  | .hbm, ⟨72, _⟩ => ⟨S32x2x8x256x1, .f32⟩
  | .hbm, ⟨73, _⟩ => ⟨S32x2x8x256x256, .f32⟩
  | .hbm, ⟨74, _⟩ => ⟨S32x2x8x256x256, .f32⟩
  | .hbm, ⟨75, _⟩ => ⟨S32x2x8x256x256, .f32⟩
  | .hbm, ⟨76, _⟩ => ⟨S_, .f32⟩
  | .hbm, ⟨77, _⟩ => ⟨S32x2x8x256, .f32⟩
  | .hbm, ⟨78, _⟩ => ⟨S32x2x8x256x1, .f32⟩
  | .hbm, ⟨79, _⟩ => ⟨S32x2x8x256x256, .f32⟩
  | .hbm, ⟨80, _⟩ => ⟨S32x2x8x256x256, .f32⟩
  | .hbm, ⟨81, _⟩ => ⟨S32x1x8x256x256, .f32⟩
  | .hbm, ⟨82, _⟩ => ⟨S32x8x256x256, .f32⟩
  | .hbm, ⟨83, _⟩ => ⟨S32x1x8x256x256, .f32⟩
  | .hbm, ⟨84, _⟩ => ⟨S32x8x256x256, .f32⟩
  | .hbm, ⟨85, _⟩ => ⟨S32x8x256x256, .f32⟩
  | .hbm, ⟨86, _⟩ => ⟨S32x8x256x256, .f32⟩
  | .hbm, ⟨87, _⟩ => ⟨S32x8x256x256, .f32⟩
  | .hbm, ⟨88, _⟩ => ⟨S32x8x128x256, .f32⟩
  | .hbm, ⟨89, _⟩ => ⟨S32x256x8x128, .f32⟩
  | .hbm, ⟨90, _⟩ => ⟨S32x256x8x128, .f32⟩
  | .hbm, ⟨91, _⟩ => ⟨S_, .f32⟩
  | .hbm, ⟨92, _⟩ => ⟨S32x256x8, .f32⟩
  | .hbm, ⟨93, _⟩ => ⟨S32x256x8x1, .f32⟩
  | .hbm, ⟨94, _⟩ => ⟨S_, .f32⟩
  | .hbm, ⟨95, _⟩ => ⟨S32x256x8x1, .f32⟩
  | .hbm, ⟨96, _⟩ => ⟨S32x256x8x1, .f32⟩
  | .hbm, ⟨97, _⟩ => ⟨S_, .f32⟩
  | .hbm, ⟨98, _⟩ => ⟨S32x256x8x1, .f32⟩
  | .hbm, ⟨99, _⟩ => ⟨S32x256x8x1, .f32⟩
  | .hbm, ⟨100, _⟩ => ⟨S32x256x8x1, .f32⟩
  | .hbm, ⟨101, _⟩ => ⟨S32x256x8x128, .f32⟩
  | .hbm, ⟨102, _⟩ => ⟨S32x256x8x128, .f32⟩
  | .hbm, ⟨103, _⟩ => ⟨S1x1x1x128, .f32⟩
  | .hbm, ⟨104, _⟩ => ⟨S32x256x8x128, .f32⟩
  | .hbm, ⟨105, _⟩ => ⟨S32x256x8x128, .f32⟩
  | .hbm, ⟨106, _⟩ => ⟨S_, .f32⟩
  | .hbm, ⟨107, _⟩ => ⟨S32x256x8x128, .f32⟩
  | .hbm, ⟨108, _⟩ => ⟨S32x256x8x128, .f32⟩
  | .hbm, ⟨109, _⟩ => ⟨S8192x1024, .f32⟩
  | .hbm, ⟨110, _⟩ => ⟨S8192x1024, .bf16⟩
  | .hbm, ⟨111, _⟩ => ⟨S8192x1024, .f32⟩
  | .hbm, ⟨112, _⟩ => ⟨S8192x1024, .f32⟩
  | _, _ => ⟨S50x12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_15 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel2.lean ====
abbrev S12288x2048 : Shape := ⟨2, ![12288, 2048]⟩
abbrev S2048 : Shape := ⟨1, ![2048]⟩
abbrev S8x1x2048 : Shape := ⟨3, ![8, 1, 2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 19
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S1x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S12288x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![24, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S12288x2048 : Shape := ⟨2, ![12288, 2048]⟩
abbrev S2048 : Shape := ⟨1, ![2048]⟩
abbrev S8x1x2048 : Shape := ⟨3, ![8, 1, 2048]⟩
abbrev S2048x5632 : Shape := ⟨2, ![2048, 5632]⟩
abbrev S5632x2048 : Shape := ⟨2, ![5632, 2048]⟩
abbrev S8192x2048 : Shape := ⟨2, ![8192, 2048]⟩
abbrev S32x256x2048 : Shape := ⟨3, ![32, 256, 2048]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S4096x2048 : Shape := ⟨2, ![4096, 2048]⟩
abbrev S2x2048x2048 : Shape := ⟨3, ![2, 2048, 2048]⟩
abbrev S2x1x2048 : Shape := ⟨3, ![2, 1, 2048]⟩
abbrev S2x2048 : Shape := ⟨2, ![2, 2048]⟩
abbrev S2x2048x1 : Shape := ⟨3, ![2, 2048, 1]⟩
abbrev S2x2048x5632 : Shape := ⟨3, ![2, 2048, 5632]⟩

abbrev nBuf : Space → Nat
  | .hbm => 99
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8192x2048, .f32⟩
  | .hbm, ⟨9, _⟩ => ⟨S32x256x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S32x256x2048, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x2048, .f32⟩
  | .hbm, ⟨25, _⟩ => ⟨S32x256x2048, .f32⟩
  | .hbm, ⟨26, _⟩ => ⟨S1x1x2048, .f32⟩
  | .hbm, ⟨27, _⟩ => ⟨S32x256x2048, .f32⟩
  | .hbm, ⟨28, _⟩ => ⟨S32x256x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S32x256x2048, .f32⟩
  | .hbm, ⟨33, _⟩ => ⟨S32x256x2048, .f32⟩
  | .hbm, ⟨34, _⟩ => ⟨S32x256x2048, .f32⟩
  | .hbm, ⟨35, _⟩ => ⟨S32x256x2048, .f32⟩
  | .hbm, ⟨36, _⟩ => ⟨S32x256x5632, .f32⟩
  | .hbm, ⟨37, _⟩ => ⟨S32x256x5632, .f32⟩
  | .hbm, ⟨38, _⟩ => ⟨S32x256x5632, .f32⟩
  | .hbm, ⟨39, _⟩ => ⟨S_, .f32⟩
  | .hbm, ⟨40, _⟩ => ⟨S32x256x5632, .f32⟩
  | .hbm, ⟨41, _⟩ => ⟨S32x256x5632, .f32⟩
  | .hbm, ⟨42, _⟩ => ⟨S_, .f32⟩
  | .hbm, ⟨43, _⟩ => ⟨S32x256x5632, .f32⟩
  | .hbm, ⟨44, _⟩ => ⟨S32x256x5632, .f32⟩
  | .hbm, ⟨45, _⟩ => ⟨S32x256x5632, .f32⟩
  | .hbm, ⟨46, _⟩ => ⟨S32x256x5632, .f32⟩
  | .hbm, ⟨47, _⟩ => ⟨S32x256x5632, .f32⟩
  | .hbm, ⟨48, _⟩ => ⟨S32x256x2048, .f32⟩
  | .hbm, ⟨49, _⟩ => ⟨S32x256x2048, .f32⟩
  | .hbm, ⟨50, _⟩ => ⟨S32x256x2048, .f32⟩
  | .hbm, ⟨51, _⟩ => ⟨S32x256x2048, .f32⟩
  | .hbm, ⟨52, _⟩ => ⟨S4096x2048, .f32⟩
  | .hbm, ⟨53, _⟩ => ⟨S2x2048x2048, .f32⟩
  | .hbm, ⟨54, _⟩ => ⟨S2x1x2048, .f32⟩
  | .hbm, ⟨55, _⟩ => ⟨S2x1x2048, .f32⟩
  | .hbm, ⟨56, _⟩ => ⟨S2x1x2048, .f32⟩
  | .hbm, ⟨57, _⟩ => ⟨S2x2048x2048, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S2x2048x1, .f32⟩
  | .hbm, ⟨68, _⟩ => ⟨S2x2048x2048, .f32⟩
  | .hbm, ⟨69, _⟩ => ⟨S2x2048x2048, .f32⟩
  | .hbm, ⟨70, _⟩ => ⟨S1x1x2048, .f32⟩
  | .hbm, ⟨71, _⟩ => ⟨S2x2048x2048, .f32⟩
  | .hbm, ⟨72, _⟩ => ⟨S2x2048x2048, .f32⟩
  | .hbm, ⟨73, _⟩ => ⟨S_, .f32⟩
  | .hbm, ⟨74, _⟩ => ⟨S2x1x2048, .f32⟩
  | .hbm, ⟨75, _⟩ => ⟨S2x1x2048, .f32⟩
  | .hbm, ⟨76, _⟩ => ⟨S2x2048x2048, .f32⟩
  | .hbm, ⟨77, _⟩ => ⟨S2x2048x2048, .f32⟩
  | .hbm, ⟨78, _⟩ => ⟨S2x2048x2048, .f32⟩
  | .hbm, ⟨79, _⟩ => ⟨S2x2048x2048, .f32⟩
  | .hbm, ⟨80, _⟩ => ⟨S2x2048x5632, .f32⟩
  | .hbm, ⟨81, _⟩ => ⟨S2x2048x5632, .f32⟩
  | .hbm, ⟨82, _⟩ => ⟨S2x2048x5632, .f32⟩
  | .hbm, ⟨83, _⟩ => ⟨S_, .f32⟩
  | .hbm, ⟨84, _⟩ => ⟨S2x2048x5632, .f32⟩
  | .hbm, ⟨85, _⟩ => ⟨S2x2048x5632, .f32⟩
  | .hbm, ⟨86, _⟩ => ⟨S_, .f32⟩
  | .hbm, ⟨87, _⟩ => ⟨S2x2048x5632, .f32⟩
  | .hbm, ⟨88, _⟩ => ⟨S2x2048x5632, .f32⟩
  | .hbm, ⟨89, _⟩ => ⟨S2x2048x5632, .f32⟩
  | .hbm, ⟨90, _⟩ => ⟨S2x2048x5632, .f32⟩
  | .hbm, ⟨91, _⟩ => ⟨S2x2048x5632, .f32⟩
  | .hbm, ⟨92, _⟩ => ⟨S2x2048x2048, .f32⟩
  | .hbm, ⟨93, _⟩ => ⟨S2x2048x2048, .f32⟩
  | .hbm, ⟨94, _⟩ => ⟨S2x2048x2048, .f32⟩
  | .hbm, ⟨95, _⟩ => ⟨S2x2048x2048, .f32⟩
  | .hbm, ⟨96, _⟩ => ⟨S8192x2048, .f32⟩
  | .hbm, ⟨97, _⟩ => ⟨S4096x2048, .f32⟩
  | .hbm, ⟨98, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Kernel3.lean ====
abbrev S12288x2048 : Shape := ⟨2, ![12288, 2048]⟩
abbrev S2048 : Shape := ⟨1, ![2048]⟩
abbrev S8x1x2048 : Shape := ⟨3, ![8, 1, 2048]⟩
abbrev S2048x10368 : Shape := ⟨2, ![2048, 10368]⟩
abbrev S1x2048 : Shape := ⟨2, ![1, 2048]⟩
abbrev S_ : Shape := ⟨0, ![]⟩
abbrev S2048x10752 : Shape := ⟨2, ![2048, 10752]⟩
abbrev S84x12288x128 : Shape := ⟨3, ![84, 12288, 128]⟩
abbrev S512x2048 : Shape := ⟨2, ![512, 2048]⟩
abbrev S1x1x2048 : Shape := ⟨3, ![1, 1, 2048]⟩
abbrev S2048x1536 : Shape := ⟨2, ![2048, 1536]⟩
abbrev S12x512x128 : Shape := ⟨3, ![12, 512, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩

abbrev nBuf : Space → Nat
  | .hbm => 11
  | .vmem => 12
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S2048x10752, .f32⟩
  | .hbm, ⟨9, _⟩ => ⟨S2048x10752, .bf16⟩
  | .hbm, ⟨10, _⟩ => ⟨S84x12288x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S12x512x128, .f32⟩
  | .local _ .vmem, ⟨10, _⟩ => ⟨S12x512x128, .f32⟩
  | .local _ .vmem, ⟨11, _⟩ => ⟨S512x2048, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S12x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S12288x2048 : Shape := ⟨2, ![12288, 2048]⟩
abbrev S2048 : Shape := ⟨1, ![2048]⟩
abbrev S8x1x2048 : Shape := ⟨3, ![8, 1, 2048]⟩
abbrev S2048x10368 : Shape := ⟨2, ![2048, 10368]⟩
abbrev S8192x2048 : Shape := ⟨2, ![8192, 2048]⟩
abbrev S32x256x2048 : Shape := ⟨3, ![32, 256, 2048]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S32x256x10368 : Shape := ⟨3, ![32, 256, 10368]⟩
abbrev S4096x2048 : Shape := ⟨2, ![4096, 2048]⟩
abbrev S2x2048x2048 : Shape := ⟨3, ![2, 2048, 2048]⟩
abbrev S2x1x2048 : Shape := ⟨3, ![2, 1, 2048]⟩
abbrev S2x2048 : Shape := ⟨2, ![2, 2048]⟩
abbrev S2x2048x1 : Shape := ⟨3, ![2, 2048, 1]⟩
abbrev S2x2048x10368 : Shape := ⟨3, ![2, 2048, 10368]⟩
abbrev S8192x10368 : Shape := ⟨2, ![8192, 10368]⟩
abbrev S4096x10368 : Shape := ⟨2, ![4096, 10368]⟩
abbrev S12288x10368 : Shape := ⟨2, ![12288, 10368]⟩
abbrev S12288x384 : Shape := ⟨2, ![12288, 384]⟩
abbrev S12288x10752 : Shape := ⟨2, ![12288, 10752]⟩
abbrev S12288x84x128 : Shape := ⟨3, ![12288, 84, 128]⟩
abbrev S84x12288x128 : Shape := ⟨3, ![84, 12288, 128]⟩

abbrev nBuf : Space → Nat
  | .hbm => 69
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S8192x2048, .f32⟩
  | .hbm, ⟨6, _⟩ => ⟨S32x256x2048, .f32⟩
  | .hbm, ⟨7, _⟩ => ⟨S1x1x2048, .f32⟩
  | .hbm, ⟨8, _⟩ => ⟨S1x1x2048, .f32⟩
  | .hbm, ⟨9, _⟩ => ⟨S32x256x2048, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x2048, .f32⟩
  | .hbm, ⟨21, _⟩ => ⟨S32x256x2048, .f32⟩
  | .hbm, ⟨22, _⟩ => ⟨S1x1x2048, .f32⟩
  | .hbm, ⟨23, _⟩ => ⟨S32x256x2048, .f32⟩
  | .hbm, ⟨24, _⟩ => ⟨S32x256x2048, .f32⟩
  | .hbm, ⟨25, _⟩ => ⟨S_, .f32⟩
  | .hbm, ⟨26, _⟩ => ⟨S1x1x2048, .f32⟩
  | .hbm, ⟨27, _⟩ => ⟨S1x1x2048, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S32x256x10368, .f32⟩
  | .hbm, ⟨33, _⟩ => ⟨S4096x2048, .f32⟩
  | .hbm, ⟨34, _⟩ => ⟨S2x2048x2048, .f32⟩
  | .hbm, ⟨35, _⟩ => ⟨S2x1x2048, .f32⟩
  | .hbm, ⟨36, _⟩ => ⟨S2x1x2048, .f32⟩
  | .hbm, ⟨37, _⟩ => ⟨S2x2048x2048, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x2048, .f32⟩
  | .hbm, ⟨49, _⟩ => ⟨S2x2048x2048, .f32⟩
  | .hbm, ⟨50, _⟩ => ⟨S1x1x2048, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x2048x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S2x2048x10368, .f32⟩
  | .hbm, ⟨61, _⟩ => ⟨S8192x10368, .f32⟩
  | .hbm, ⟨62, _⟩ => ⟨S4096x10368, .f32⟩
  | .hbm, ⟨63, _⟩ => ⟨S12288x10368, .f32⟩
  | .hbm, ⟨64, _⟩ => ⟨S_, .f32⟩
  | .hbm, ⟨65, _⟩ => ⟨S12288x384, .f32⟩
  | .hbm, ⟨66, _⟩ => ⟨S12288x10752, .f32⟩
  | .hbm, ⟨67, _⟩ => ⟨S12288x84x128, .f32⟩
  | .hbm, ⟨68, _⟩ => ⟨S84x12288x128, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel4.lean ====
abbrev S12288x2048 : Shape := ⟨2, ![12288, 2048]⟩
abbrev S8x1x2048 : Shape := ⟨3, ![8, 1, 2048]⟩
abbrev S12288x4096 : Shape := ⟨2, ![12288, 4096]⟩
abbrev S4096 : Shape := ⟨1, ![4096]⟩
abbrev S4096x2048 : Shape := ⟨2, ![4096, 2048]⟩
abbrev S1x4096 : Shape := ⟨2, ![1, 4096]⟩
abbrev S512x512 : Shape := ⟨2, ![512, 512]⟩
abbrev S1x1x512 : Shape := ⟨3, ![1, 1, 512]⟩
abbrev S512x4096 : Shape := ⟨2, ![512, 4096]⟩
abbrev S4096x512 : Shape := ⟨2, ![4096, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S12288x2048, .f32⟩
  | .hbm, ⟨1, _⟩ => ⟨S8x1x2048, .f32⟩
  | .hbm, ⟨2, _⟩ => ⟨S12288x4096, .f32⟩
  | .hbm, ⟨3, _⟩ => ⟨S4096, .f32⟩
  | .hbm, ⟨4, _⟩ => ⟨S4096x2048, .f32⟩
  | .hbm, ⟨5, _⟩ => ⟨S1x4096, .f32⟩
  | .hbm, ⟨6, _⟩ => ⟨S4096x2048, .bf16⟩
  | .hbm, ⟨7, _⟩ => ⟨S12288x2048, .f32⟩
  | .local _ .vmem, ⟨0, _⟩ => ⟨S512x512, .f32⟩
  | .local _ .vmem, ⟨1, _⟩ => ⟨S512x512, .f32⟩
  | .local _ .vmem, ⟨2, _⟩ => ⟨S1x1x512, .f32⟩
  | .local _ .vmem, ⟨3, _⟩ => ⟨S1x1x512, .f32⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  ![v20.toNat, c0_i32_6.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S12288x2048 : Shape := ⟨2, ![12288, 2048]⟩
abbrev S8x1x2048 : Shape := ⟨3, ![8, 1, 2048]⟩
abbrev S12288x4096 : Shape := ⟨2, ![12288, 4096]⟩
abbrev S4096 : Shape := ⟨1, ![4096]⟩
abbrev S4096x2048 : Shape := ⟨2, ![4096, 2048]⟩
abbrev S8192x2048 : Shape := ⟨2, ![8192, 2048]⟩
abbrev S32x256x2048 : Shape := ⟨3, ![32, 256, 2048]⟩
abbrev S1x1x2048 : Shape := ⟨3, ![1, 1, 2048]⟩
abbrev S8192x4096 : Shape := ⟨2, ![8192, 4096]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩
abbrev S1x1x4096 : Shape := ⟨3, ![1, 1, 4096]⟩
abbrev S2x2048x2048 : Shape := ⟨3, ![2, 2048, 2048]⟩
abbrev S2x1x2048 : Shape := ⟨3, ![2, 1, 2048]⟩
abbrev S4096x4096 : Shape := ⟨2, ![4096, 4096]⟩
abbrev S2x2048x4096 : Shape := ⟨3, ![2, 2048, 4096]⟩
abbrev S2x2048 : Shape := ⟨2, ![2, 2048]⟩
abbrev S2x2048x1 : Shape := ⟨3, ![2, 2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S8x1x2048, .f32⟩
  | .hbm, ⟨2, _⟩ => ⟨S12288x4096, .f32⟩
  | .hbm, ⟨3, _⟩ => ⟨S4096, .f32⟩
  | .hbm, ⟨4, _⟩ => ⟨S4096x2048, .f32⟩
  | .hbm, ⟨5, _⟩ => ⟨S8192x2048, .f32⟩
  | .hbm, ⟨6, _⟩ => ⟨S32x256x2048, .f32⟩
  | .hbm, ⟨7, _⟩ => ⟨S1x1x2048, .f32⟩
  | .hbm, ⟨8, _⟩ => ⟨S8192x4096, .f32⟩
  | .hbm, ⟨9, _⟩ => ⟨S32x256x4096, .f32⟩
  | .hbm, ⟨10, _⟩ => ⟨S32x256x4096, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x4096, .f32⟩
  | .hbm, ⟨22, _⟩ => ⟨S32x256x4096, .f32⟩
  | .hbm, ⟨23, _⟩ => ⟨S1x1x4096, .f32⟩
  | .hbm, ⟨24, _⟩ => ⟨S32x256x4096, .f32⟩
  | .hbm, ⟨25, _⟩ => ⟨S32x256x4096, .f32⟩
  | .hbm, ⟨26, _⟩ => ⟨S32x256x2048, .f32⟩
  | .hbm, ⟨27, _⟩ => ⟨S32x256x2048, .f32⟩
  | .hbm, ⟨28, _⟩ => ⟨S32x256x2048, .f32⟩
  | .hbm, ⟨29, _⟩ => ⟨S32x256x2048, .f32⟩
  | .hbm, ⟨30, _⟩ => ⟨S4096x2048, .f32⟩
  | .hbm, ⟨31, _⟩ => ⟨S2x2048x2048, .f32⟩
  | .hbm, ⟨32, _⟩ => ⟨S2x1x2048, .f32⟩
  | .hbm, ⟨33, _⟩ => ⟨S4096x4096, .f32⟩
  | .hbm, ⟨34, _⟩ => ⟨S2x2048x4096, .f32⟩
  | .hbm, ⟨35, _⟩ => ⟨S2x2048x4096, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1, .f32⟩
  | .hbm, ⟨46, _⟩ => ⟨S2x2048x4096, .f32⟩
  | .hbm, ⟨47, _⟩ => ⟨S2x2048x4096, .f32⟩
  | .hbm, ⟨48, _⟩ => ⟨S1x1x4096, .f32⟩
  | .hbm, ⟨49, _⟩ => ⟨S2x2048x4096, .f32⟩
  | .hbm, ⟨50, _⟩ => ⟨S2x2048x4096, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S2x2048x2048, .f32⟩
  | .hbm, ⟨55, _⟩ => ⟨S8192x2048, .f32⟩
  | .hbm, ⟨56, _⟩ => ⟨S4096x2048, .f32⟩
  | .hbm, ⟨57, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Kernel5.lean ====
abbrev S12288x2048 : Shape := ⟨2, ![12288, 2048]⟩
abbrev S8x1x2048 : Shape := ⟨3, ![8, 1, 2048]⟩
abbrev S12288x1024 : Shape := ⟨2, ![12288, 1024]⟩
abbrev S2048x2048 : Shape := ⟨2, ![2048, 2048]⟩
abbrev S1024x2048 : Shape := ⟨2, ![1024, 2048]⟩
abbrev S512x512 : Shape := ⟨2, ![512, 512]⟩
abbrev S1x1x512 : Shape := ⟨3, ![1, 1, 512]⟩
abbrev S512x1024 : Shape := ⟨2, ![512, 1024]⟩
abbrev S1024x512 : Shape := ⟨2, ![1024, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S12288x2048, .f32⟩
  | .hbm, ⟨1, _⟩ => ⟨S8x1x2048, .f32⟩
  | .hbm, ⟨2, _⟩ => ⟨S12288x1024, .bf16⟩
  | .hbm, ⟨3, _⟩ => ⟨S12288x1024, .bf16⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S12288x2048, .f32⟩
  | .local _ .vmem, ⟨0, _⟩ => ⟨S512x512, .f32⟩
  | .local _ .vmem, ⟨1, _⟩ => ⟨S512x512, .f32⟩
  | .local _ .vmem, ⟨2, _⟩ => ⟨S1x1x512, .f32⟩
  | .local _ .vmem, ⟨3, _⟩ => ⟨S1x1x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .f32⟩
  | .local _ .vmem, ⟨13, _⟩ => ⟨S512x512, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  ![v20.toNat, c0_i32_6.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S12288x2048 : Shape := ⟨2, ![12288, 2048]⟩
abbrev S8x1x2048 : Shape := ⟨3, ![8, 1, 2048]⟩
abbrev S12288x1024 : Shape := ⟨2, ![12288, 1024]⟩
abbrev S2048x2048 : Shape := ⟨2, ![2048, 2048]⟩
abbrev S8192x2048 : Shape := ⟨2, ![8192, 2048]⟩
abbrev S32x256x2048 : Shape := ⟨3, ![32, 256, 2048]⟩
abbrev S1x1x2048 : Shape := ⟨3, ![1, 1, 2048]⟩
abbrev S8192x1024 : Shape := ⟨2, ![8192, 1024]⟩
abbrev S32x256x1024 : Shape := ⟨3, ![32, 256, 1024]⟩
abbrev S4096x2048 : Shape := ⟨2, ![4096, 2048]⟩
abbrev S2x2048x2048 : Shape := ⟨3, ![2, 2048, 2048]⟩
abbrev S2x1x2048 : Shape := ⟨3, ![2, 1, 2048]⟩
abbrev S4096x1024 : Shape := ⟨2, ![4096, 1024]⟩
abbrev S2x2048x1024 : Shape := ⟨3, ![2, 2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S8x1x2048, .f32⟩
  | .hbm, ⟨2, _⟩ => ⟨S12288x1024, .bf16⟩
  | .hbm, ⟨3, _⟩ => ⟨S12288x1024, .bf16⟩
  | .hbm, ⟨4, _⟩ => ⟨S2048x2048, .f32⟩
  | .hbm, ⟨5, _⟩ => ⟨S8192x2048, .f32⟩
  | .hbm, ⟨6, _⟩ => ⟨S32x256x2048, .f32⟩
  | .hbm, ⟨7, _⟩ => ⟨S1x1x2048, .f32⟩
  | .hbm, ⟨8, _⟩ => ⟨S8192x1024, .bf16⟩
  | .hbm, ⟨9, _⟩ => ⟨S32x256x1024, .bf16⟩
  | .hbm, ⟨10, _⟩ => ⟨S8192x1024, .bf16⟩
  | .hbm, ⟨11, _⟩ => ⟨S32x256x1024, .bf16⟩
  | .hbm, ⟨12, _⟩ => ⟨S32x256x2048, .bf16⟩
  | .hbm, ⟨13, _⟩ => ⟨S32x256x2048, .f32⟩
  | .hbm, ⟨14, _⟩ => ⟨S32x256x2048, .f32⟩
  | .hbm, ⟨15, _⟩ => ⟨S32x256x2048, .f32⟩
  | .hbm, ⟨16, _⟩ => ⟨S32x256x2048, .f32⟩
  | .hbm, ⟨17, _⟩ => ⟨S32x256x2048, .f32⟩
  | .hbm, ⟨18, _⟩ => ⟨S4096x2048, .f32⟩
  | .hbm, ⟨19, _⟩ => ⟨S2x2048x2048, .f32⟩
  | .hbm, ⟨20, _⟩ => ⟨S2x1x2048, .f32⟩
  | .hbm, ⟨21, _⟩ => ⟨S4096x1024, .bf16⟩
  | .hbm, ⟨22, _⟩ => ⟨S2x2048x1024, .bf16⟩
  | .hbm, ⟨23, _⟩ => ⟨S4096x1024, .bf16⟩
  | .hbm, ⟨24, _⟩ => ⟨S2x2048x1024, .bf16⟩
  | .hbm, ⟨25, _⟩ => ⟨S2x2048x2048, .bf16⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S8192x2048, .f32⟩
  | .hbm, ⟨32, _⟩ => ⟨S4096x2048, .f32⟩
  | .hbm, ⟨33, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel6.lean ====
abbrev S12288x2048 : Shape := ⟨2, ![12288, 2048]⟩
abbrev S2048 : Shape := ⟨1, ![2048]⟩
abbrev S8x1x2048 : Shape := ⟨3, ![8, 1, 2048]⟩
abbrev S2048x6176 : Shape := ⟨2, ![2048, 6176]⟩
abbrev S2048x3072 : Shape := ⟨2, ![2048, 3072]⟩
abbrev S2048x32 : Shape := ⟨2, ![2048, 32]⟩
abbrev S1x2048 : Shape := ⟨2, ![1, 2048]⟩
abbrev S_ : Shape := ⟨0, ![]⟩
abbrev S2048x6400 : Shape := ⟨2, ![2048, 6400]⟩
abbrev S50x12288x128 : Shape := ⟨3, ![50, 12288, 128]⟩
abbrev S512x2048 : Shape := ⟨2, ![512, 2048]⟩
abbrev S1x1x2048 : Shape := ⟨3, ![1, 1, 2048]⟩
abbrev S2048x1280 : Shape := ⟨2, ![2048, 1280]⟩
abbrev S10x512x128 : Shape := ⟨3, ![10, 512, 128]⟩
abbrev S512 : Shape := ⟨1, ![512]⟩
abbrev S512x1 : Shape := ⟨2, ![512, 1]⟩
abbrev S512x1280 : Shape := ⟨2, ![512, 1280]⟩
abbrev S512x128 : Shape := ⟨2, ![512, 128]⟩
abbrev S1x512x128 : Shape := ⟨3, ![1, 512, 128]⟩

abbrev nBuf : Space → Nat
  | .hbm => 15
  | .vmem => 12
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6176, .f32⟩
  | .hbm, ⟨5, _⟩ => ⟨S2048x3072, .f32⟩
  | .hbm, ⟨6, _⟩ => ⟨S2048x3072, .f32⟩
  | .hbm, ⟨7, _⟩ => ⟨S2048x32, .f32⟩
  | .hbm, ⟨8, _⟩ => ⟨S2048x6176, .f32⟩
  | .hbm, ⟨9, _⟩ => ⟨S1x2048, .f32⟩
  | .hbm, ⟨10, _⟩ => ⟨S_, .i32⟩
  | .hbm, ⟨11, _⟩ => ⟨S_, .f32⟩
  | .hbm, ⟨12, _⟩ => ⟨S2048x6400, .f32⟩
  | .hbm, ⟨13, _⟩ => ⟨S2048x6400, .bf16⟩
  | .hbm, ⟨14, _⟩ => ⟨S50x12288x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S10x512x128, .f32⟩
  | .local _ .vmem, ⟨10, _⟩ => ⟨S10x512x128, .f32⟩
  | .local _ .vmem, ⟨11, _⟩ => ⟨S512x2048, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.subi v0 c8192_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S10x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S12288x2048 : Shape := ⟨2, ![12288, 2048]⟩
abbrev S2048 : Shape := ⟨1, ![2048]⟩
abbrev S8x1x2048 : Shape := ⟨3, ![8, 1, 2048]⟩
abbrev S2048x6176 : Shape := ⟨2, ![2048, 6176]⟩
abbrev S8192x2048 : Shape := ⟨2, ![8192, 2048]⟩
abbrev S32x256x2048 : Shape := ⟨3, ![32, 256, 2048]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S32x256x6176 : Shape := ⟨3, ![32, 256, 6176]⟩
abbrev S4096x2048 : Shape := ⟨2, ![4096, 2048]⟩
abbrev S2x2048x2048 : Shape := ⟨3, ![2, 2048, 2048]⟩
abbrev S2x1x2048 : Shape := ⟨3, ![2, 1, 2048]⟩
abbrev S2x2048 : Shape := ⟨2, ![2, 2048]⟩
abbrev S2x2048x1 : Shape := ⟨3, ![2, 2048, 1]⟩
abbrev S2x2048x6176 : Shape := ⟨3, ![2, 2048, 6176]⟩
abbrev S8192x6176 : Shape := ⟨2, ![8192, 6176]⟩
abbrev S4096x6176 : Shape := ⟨2, ![4096, 6176]⟩
abbrev S12288x6176 : Shape := ⟨2, ![12288, 6176]⟩
abbrev S12288x3072 : Shape := ⟨2, ![12288, 3072]⟩
abbrev S12288x32 : Shape := ⟨2, ![12288, 32]⟩
abbrev S12288x224 : Shape := ⟨2, ![12288, 224]⟩
abbrev S12288x6400 : Shape := ⟨2, ![12288, 6400]⟩
abbrev S12288x50x128 : Shape := ⟨3, ![12288, 50, 128]⟩
abbrev S50x12288x128 : Shape := ⟨3, ![50, 12288, 128]⟩

abbrev nBuf : Space → Nat
  | .hbm => 72
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6176, .f32⟩
  | .hbm, ⟨5, _⟩ => ⟨S8192x2048, .f32⟩
  | .hbm, ⟨6, _⟩ => ⟨S32x256x2048, .f32⟩
  | .hbm, ⟨7, _⟩ => ⟨S1x1x2048, .f32⟩
  | .hbm, ⟨8, _⟩ => ⟨S1x1x2048, .f32⟩
  | .hbm, ⟨9, _⟩ => ⟨S32x256x2048, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x2048, .f32⟩
  | .hbm, ⟨21, _⟩ => ⟨S32x256x2048, .f32⟩
  | .hbm, ⟨22, _⟩ => ⟨S1x1x2048, .f32⟩
  | .hbm, ⟨23, _⟩ => ⟨S32x256x2048, .f32⟩
  | .hbm, ⟨24, _⟩ => ⟨S32x256x2048, .f32⟩
  | .hbm, ⟨25, _⟩ => ⟨S_, .f32⟩
  | .hbm, ⟨26, _⟩ => ⟨S1x1x2048, .f32⟩
  | .hbm, ⟨27, _⟩ => ⟨S1x1x2048, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S32x256x6176, .f32⟩
  | .hbm, ⟨33, _⟩ => ⟨S4096x2048, .f32⟩
  | .hbm, ⟨34, _⟩ => ⟨S2x2048x2048, .f32⟩
  | .hbm, ⟨35, _⟩ => ⟨S2x1x2048, .f32⟩
  | .hbm, ⟨36, _⟩ => ⟨S2x1x2048, .f32⟩
  | .hbm, ⟨37, _⟩ => ⟨S2x2048x2048, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x2048, .f32⟩
  | .hbm, ⟨49, _⟩ => ⟨S2x2048x2048, .f32⟩
  | .hbm, ⟨50, _⟩ => ⟨S1x1x2048, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x2048x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S2x2048x6176, .f32⟩
  | .hbm, ⟨61, _⟩ => ⟨S8192x6176, .f32⟩
  | .hbm, ⟨62, _⟩ => ⟨S4096x6176, .f32⟩
  | .hbm, ⟨63, _⟩ => ⟨S12288x6176, .f32⟩
  | .hbm, ⟨64, _⟩ => ⟨S12288x3072, .f32⟩
  | .hbm, ⟨65, _⟩ => ⟨S12288x3072, .f32⟩
  | .hbm, ⟨66, _⟩ => ⟨S12288x32, .f32⟩
  | .hbm, ⟨67, _⟩ => ⟨S_, .f32⟩
  | .hbm, ⟨68, _⟩ => ⟨S12288x224, .f32⟩
  | .hbm, ⟨69, _⟩ => ⟨S12288x6400, .f32⟩
  | .hbm, ⟨70, _⟩ => ⟨S12288x50x128, .f32⟩
  | .hbm, ⟨71, _⟩ => ⟨S50x12288x128, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel7.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S50x12288x128 : Shape := ⟨3, ![50, 12288, 128]⟩
abbrev S2x256x8x2x64 : Shape := ⟨5, ![2, 256, 8, 2, 64]⟩
abbrev S2x256x8x128 : Shape := ⟨4, ![2, 256, 8, 128]⟩
abbrev S64 : Shape := ⟨1, ![64]⟩
abbrev S128 : Shape := ⟨1, ![128]⟩
abbrev S32 : Shape := ⟨1, ![32]⟩
abbrev S32x64 : Shape := ⟨2, ![32, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S2x2048x16 : Shape := ⟨3, ![2, 2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S4x64 : Shape := ⟨2, ![4, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2x256x1024 : Shape := ⟨3, ![2, 256, 1024]⟩
abbrev S4096x1024 : Shape := ⟨2, ![4096, 1024]⟩
abbrev S1x256x128 : Shape := ⟨3, ![1, 256, 128]⟩
abbrev S1x2048x128 : Shape := ⟨3, ![1, 2048, 128]⟩
abbrev S256x128 : Shape := ⟨2, ![256, 128]⟩
abbrev S2304x128 : Shape := ⟨2, ![2304, 128]⟩
abbrev S2048 : Shape := ⟨1, ![2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x2304 : Shape := ⟨2, ![256, 2304]⟩

abbrev nBuf : Space → Nat
  | .hbm => 80
  | .vmem => 24
  | .smem => 0
  | _ => 0

abbrev bufTy : (tb : Table) → Fin (tcTables nBuf tb) → BufTy
  | .hbm, ⟨0, _⟩ => ⟨S50x12288x128, .f32⟩
  | .hbm, ⟨1, _⟩ => ⟨S2x256x8x2x64, .f32⟩
  | .hbm, ⟨2, _⟩ => ⟨S2x256x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S32, .f32⟩
  | .hbm, ⟨11, _⟩ => ⟨S64, .f32⟩
  | .hbm, ⟨12, _⟩ => ⟨S32x64, .f32⟩
  | .hbm, ⟨13, _⟩ => ⟨S32x64, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S1x2048x16, .f32⟩
  | .hbm, ⟨33, _⟩ => ⟨S1x2048x16, .f32⟩
  | .hbm, ⟨34, _⟩ => ⟨S2x2048x16, .f32⟩
  | .hbm, ⟨35, _⟩ => ⟨S2x2048x16, .f32⟩
  | .hbm, ⟨36, _⟩ => ⟨S2x2048x16, .f32⟩
  | .hbm, ⟨37, _⟩ => ⟨S1x2048x16, .f32⟩
  | .hbm, ⟨38, _⟩ => ⟨S2048x16, .f32⟩
  | .hbm, ⟨39, _⟩ => ⟨S1x2048x16, .f32⟩
  | .hbm, ⟨40, _⟩ => ⟨S2048x16, .f32⟩
  | .hbm, ⟨41, _⟩ => ⟨S1x2048x16, .f32⟩
  | .hbm, ⟨42, _⟩ => ⟨S2048x16, .f32⟩
  | .hbm, ⟨43, _⟩ => ⟨S1x2048x16, .f32⟩
  | .hbm, ⟨44, _⟩ => ⟨S2048x16, .f32⟩
  | .hbm, ⟨45, _⟩ => ⟨S2048x64, .f32⟩
  | .hbm, ⟨46, _⟩ => ⟨S1x2048x16, .f32⟩
  | .hbm, ⟨47, _⟩ => ⟨S2048x16, .f32⟩
  | .hbm, ⟨48, _⟩ => ⟨S2048x16, .f32⟩
  | .hbm, ⟨49, _⟩ => ⟨S1x2048x16, .f32⟩
  | .hbm, ⟨50, _⟩ => ⟨S2048x16, .f32⟩
  | .hbm, ⟨51, _⟩ => ⟨S1x2048x16, .f32⟩
  | .hbm, ⟨52, _⟩ => ⟨S2048x16, .f32⟩
  | .hbm, ⟨53, _⟩ => ⟨S2048x16, .f32⟩
  | .hbm, ⟨54, _⟩ => ⟨S1x2048x16, .f32⟩
  | .hbm, ⟨55, _⟩ => ⟨S2048x16, .f32⟩
  | .hbm, ⟨56, _⟩ => ⟨S2048x64, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S1x2048x1x64, .f32⟩
  | .hbm, ⟨61, _⟩ => ⟨S1x2048x2x64, .f32⟩
  | .hbm, ⟨62, _⟩ => ⟨S2048x128, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S4x64, .f32⟩
  | .hbm, ⟨68, _⟩ => ⟨S1x64, .f32⟩
  | .hbm, ⟨69, _⟩ => ⟨S1x1x1x64, .f32⟩
  | .hbm, ⟨70, _⟩ => ⟨S1x1x2x64, .f32⟩
  | .hbm, ⟨71, _⟩ => ⟨S1x128, .f32⟩
  | .hbm, ⟨72, _⟩ => ⟨S1x64, .f32⟩
  | .hbm, ⟨73, _⟩ => ⟨S1x1x1x64, .f32⟩
  | .hbm, ⟨74, _⟩ => ⟨S1x1x2x64, .f32⟩
  | .hbm, ⟨75, _⟩ => ⟨S1x128, .f32⟩
  | .hbm, ⟨76, _⟩ => ⟨S1x128, .f32⟩
  | .hbm, ⟨77, _⟩ => ⟨S2x256x1024, .f32⟩
  | .hbm, ⟨78, _⟩ => ⟨S2x256x1024, .f32⟩
  | .hbm, ⟨79, _⟩ => ⟨S4096x1024, .bf16⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S2048x128, .f32⟩
  | .local _ .vmem, ⟨19, _⟩ => ⟨S2048x128, .f32⟩
  | .local _ .vmem, ⟨20, _⟩ => ⟨S256x128, .bf16⟩
  | .local _ .vmem, ⟨21, _⟩ => ⟨S256x128, .bf16⟩
  | .local _ .vmem, ⟨22, _⟩ => ⟨S2304x128, .bf16⟩
  | .local _ .vmem, ⟨23, _⟩ => ⟨S2304x128, .bf16⟩
  | _, _ => ⟨S50x12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c8_i32 : BitVec 32 := 8#32
  let v1 : BitVec 32 := Scalar.muli arg0 c8_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c4_i32 : BitVec 32 := 4#32
  let v1 : BitVec 32 := Scalar.addi c4_i32 arg0
  let c0_i32 : BitVec 32 := 0#32
  let c0_i32_0 : BitVec 32 := 0#32
  ![v0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c4_i32 : BitVec 32 := 4#32
  let v1 : BitVec 32 := Scalar.addi c4_i32 arg0
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Reference8Ideal.lean ====
abbrev S50x12288x128 : Shape := ⟨3, ![50, 12288, 128]⟩
abbrev S2x256x8x2x64 : Shape := ⟨5, ![2, 256, 8, 2, 64]⟩
abbrev S2x256x8x128 : Shape := ⟨4, ![2, 256, 8, 128]⟩
abbrev S64 : Shape := ⟨1, ![64]⟩
abbrev S128 : Shape := ⟨1, ![128]⟩
abbrev S32 : Shape := ⟨1, ![32]⟩
abbrev S32x64 : Shape := ⟨2, ![32, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S2x2048x16 : Shape := ⟨3, ![2, 2048, 16]⟩
abbrev S8x4096x128 : Shape := ⟨3, ![8, 4096, 128]⟩
abbrev S4096x8x128 : Shape := ⟨3, ![4096, 8, 128]⟩
abbrev S2x2048x1024 : Shape := ⟨3, ![2, 2048, 1024]⟩
abbrev S2x2048x8x2x64 : Shape := ⟨5, ![2, 2048, 8, 2, 64]⟩
abbrev S2x2048x8x2 : Shape := ⟨4, ![2, 2048, 8, 2]⟩
abbrev S2x2048x8x2x1 : Shape := ⟨5, ![2, 2048, 8, 2, 1]⟩
abbrev S1x1x1x1x64 : Shape := ⟨5, ![1, 1, 1, 1, 64]⟩
abbrev S2x2048x8x2x32 : Shape := ⟨5, ![2, 2048, 8, 2, 32]⟩
abbrev S2x2048x8x2x16 : Shape := ⟨5, ![2, 2048, 8, 2, 16]⟩
abbrev S1x2048x1x1x16 : Shape := ⟨5, ![1, 2048, 1, 1, 16]⟩
abbrev S2x2304x8x2x64 : Shape := ⟨5, ![2, 2304, 8, 2, 64]⟩
abbrev S2x2048x8x128 : Shape := ⟨4, ![2, 2048, 8, 128]⟩
abbrev S2x2304x8x128 : Shape := ⟨4, ![2, 2304, 8, 128]⟩
abbrev S2x2x8x2048x2304 : Shape := ⟨5, ![2, 2, 8, 2048, 2304]⟩
abbrev S2x2x8x2048 : Shape := ⟨4, ![2, 2, 8, 2048]⟩
abbrev S2x2x8x2048x1 : Shape := ⟨5, ![2, 2, 8, 2048, 1]⟩
abbrev S2x1x8x2048x2304 : Shape := ⟨5, ![2, 1, 8, 2048, 2304]⟩
abbrev S2x8x2048x2304 : Shape := ⟨4, ![2, 8, 2048, 2304]⟩
abbrev S2x8x128x2048 : Shape := ⟨4, ![2, 8, 128, 2048]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S4096x1024 : Shape := ⟨2, ![4096, 1024]⟩

abbrev nBuf : Space → Nat
  | .hbm => 220
  | .vmem => 0
  | .smem => 0
  | _ => 0

abbrev hbmTy0_0 (i : Nat) : BufTy := match i % 128 with
  | 0 => ⟨S50x12288x128, .f32⟩
  | 1 => ⟨S2x256x8x2x64, .f32⟩
  | 2 => ⟨S2x256x8x128, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S128, .f32⟩
  | 10 => ⟨S32, .f32⟩
  | 11 => ⟨S64, .f32⟩
  | 12 => ⟨S32x64, .f32⟩
  | 13 => ⟨S32x64, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S1x2048x16, .f32⟩
  | 33 => ⟨S1x2048x16, .f32⟩
  | 34 => ⟨S2x2048x16, .f32⟩
  | 35 => ⟨S2x2048x16, .f32⟩
  | 36 => ⟨S2x2048x16, .f32⟩
  | 37 => ⟨S8x4096x128, .f32⟩
  | 38 => ⟨S4096x8x128, .f32⟩
  | 39 => ⟨S2x2048x1024, .f32⟩
  | 40 => ⟨S8x4096x128, .f32⟩
  | 41 => ⟨S4096x8x128, .f32⟩
  | 42 => ⟨S2x2048x1024, .f32⟩
  | 43 => ⟨S8x4096x128, .f32⟩
  | 44 => ⟨S4096x8x128, .f32⟩
  | 45 => ⟨S2x2048x1024, .f32⟩
  | 46 => ⟨S2x2048x8x2x64, .f32⟩
  | 47 => ⟨S2x2048x8x2x64, .f32⟩
  | 48 => ⟨S_, .f32⟩
  | 49 => ⟨S2x2048x8x2, .f32⟩
  | 50 => ⟨S2x2048x8x2x1, .f32⟩
  | 51 => ⟨S_, .f32⟩
  | 52 => ⟨S2x2048x8x2x1, .f32⟩
  | 53 => ⟨S2x2048x8x2x1, .f32⟩
  | 54 => ⟨S_, .f32⟩
  | 55 => ⟨S2x2048x8x2x1, .f32⟩
  | 56 => ⟨S2x2048x8x2x1, .f32⟩
  | 57 => ⟨S2x2048x8x2x1, .f32⟩
  | 58 => ⟨S2x2048x8x2x64, .f32⟩
  | 59 => ⟨S2x2048x8x2x64, .f32⟩
  | 60 => ⟨S1x1x1x1x64, .f32⟩
  | 61 => ⟨S2x2048x8x2x64, .f32⟩
  | 62 => ⟨S2x2048x8x2x64, .f32⟩
  | 63 => ⟨S2x2048x8x2x32, .f32⟩
  | 64 => ⟨S2x2048x8x2x16, .f32⟩
  | 65 => ⟨S2x2048x8x2x16, .f32⟩
  | 66 => ⟨S1x2048x16, .f32⟩
  | 67 => ⟨S2048x16, .f32⟩
  | 68 => ⟨S1x2048x1x1x16, .f32⟩
  | 69 => ⟨S1x2048x16, .f32⟩
  | 70 => ⟨S2048x16, .f32⟩
  | 71 => ⟨S1x2048x1x1x16, .f32⟩
  | 72 => ⟨S2x2048x8x2x16, .f32⟩
  | 73 => ⟨S2x2048x8x2x16, .f32⟩
  | 74 => ⟨S2x2048x8x2x16, .f32⟩
  | 75 => ⟨S2x2048x8x2x16, .f32⟩
  | 76 => ⟨S2x2048x8x2x16, .f32⟩
  | 77 => ⟨S2x2048x8x2x16, .f32⟩
  | 78 => ⟨S2x2048x8x2x16, .f32⟩
  | 79 => ⟨S2x2048x8x2x16, .f32⟩
  | 80 => ⟨S2x2048x8x2x16, .f32⟩
  | 81 => ⟨S2x2048x8x2x16, .f32⟩
  | 82 => ⟨S2x2048x8x2x32, .f32⟩
  | 83 => ⟨S2x2048x8x2x16, .f32⟩
  | 84 => ⟨S2x2048x8x2x16, .f32⟩
  | 85 => ⟨S1x2048x16, .f32⟩
  | 86 => ⟨S2048x16, .f32⟩
  | 87 => ⟨S1x2048x1x1x16, .f32⟩
  | 88 => ⟨S1x2048x16, .f32⟩
  | 89 => ⟨S2048x16, .f32⟩
  | 90 => ⟨S1x2048x1x1x16, .f32⟩
  | 91 => ⟨S2x2048x8x2x16, .f32⟩
  | 92 => ⟨S2x2048x8x2x16, .f32⟩
  | 93 => ⟨S2x2048x8x2x16, .f32⟩
  | 94 => ⟨S2x2048x8x2x16, .f32⟩
  | 95 => ⟨S2x2048x8x2x16, .f32⟩
  | 96 => ⟨S2x2048x8x2x16, .f32⟩
  | 97 => ⟨S2x2048x8x2x16, .f32⟩
  | 98 => ⟨S2x2048x8x2x16, .f32⟩
  | 99 => ⟨S2x2048x8x2x16, .f32⟩
  | 100 => ⟨S2x2048x8x2x16, .f32⟩
  | 101 => ⟨S2x2048x8x2x64, .f32⟩
  | 102 => ⟨S2x2048x8x2x64, .f32⟩
  | 103 => ⟨S2x2048x8x2x64, .f32⟩
  | 104 => ⟨S_, .f32⟩
  | 105 => ⟨S2x2048x8x2, .f32⟩
  | 106 => ⟨S2x2048x8x2x1, .f32⟩
  | 107 => ⟨S_, .f32⟩
  | 108 => ⟨S2x2048x8x2x1, .f32⟩
  | 109 => ⟨S2x2048x8x2x1, .f32⟩
  | 110 => ⟨S_, .f32⟩
  | 111 => ⟨S2x2048x8x2x1, .f32⟩
  | 112 => ⟨S2x2048x8x2x1, .f32⟩
  | 113 => ⟨S2x2048x8x2x1, .f32⟩
  | 114 => ⟨S2x2048x8x2x64, .f32⟩
  | 115 => ⟨S2x2048x8x2x64, .f32⟩
  | 116 => ⟨S1x1x1x1x64, .f32⟩
  | 117 => ⟨S2x2048x8x2x64, .f32⟩
  | 118 => ⟨S2x2048x8x2x64, .f32⟩
  | 119 => ⟨S2x2048x8x2x32, .f32⟩
  | 120 => ⟨S2x2048x8x2x16, .f32⟩
  | 121 => ⟨S2x2048x8x2x16, .f32⟩
  | 122 => ⟨S1x2048x16, .f32⟩
  | 123 => ⟨S2048x16, .f32⟩
  | 124 => ⟨S1x2048x1x1x16, .f32⟩
  | 125 => ⟨S1x2048x16, .f32⟩
  | 126 => ⟨S2048x16, .f32⟩
  | 127 => ⟨S1x2048x1x1x16, .f32⟩
  | _ => ⟨S50x12288x128, .f32⟩

abbrev hbmTy0_1 (i : Nat) : BufTy := match i % 128 with
  | 0 => ⟨S2x2048x8x2x16, .f32⟩
  | 1 => ⟨S2x2048x8x2x16, .f32⟩
  | 2 => ⟨S2x2048x8x2x16, .f32⟩
  | 3 => ⟨S2x2048x8x2x16, .f32⟩
  | 4 => ⟨S2x2048x8x2x16, .f32⟩
  | 5 => ⟨S2x2048x8x2x16, .f32⟩
  | 6 => ⟨S2x2048x8x2x16, .f32⟩
  | 7 => ⟨S2x2048x8x2x16, .f32⟩
  | 8 => ⟨S2x2048x8x2x16, .f32⟩
  | 9 => ⟨S2x2048x8x2x16, .f32⟩
  | 10 => ⟨S2x2048x8x2x32, .f32⟩
  | 11 => ⟨S2x2048x8x2x16, .f32⟩
  | 12 => ⟨S2x2048x8x2x16, .f32⟩
  | 13 => ⟨S1x2048x16, .f32⟩
  | 14 => ⟨S2048x16, .f32⟩
  | 15 => ⟨S1x2048x1x1x16, .f32⟩
  | 16 => ⟨S1x2048x16, .f32⟩
  | 17 => ⟨S2048x16, .f32⟩
  | 18 => ⟨S1x2048x1x1x16, .f32⟩
  | 19 => ⟨S2x2048x8x2x16, .f32⟩
  | 20 => ⟨S2x2048x8x2x16, .f32⟩
  | 21 => ⟨S2x2048x8x2x16, .f32⟩
  | 22 => ⟨S2x2048x8x2x16, .f32⟩
  | 23 => ⟨S2x2048x8x2x16, .f32⟩
  | 24 => ⟨S2x2048x8x2x16, .f32⟩
  | 25 => ⟨S2x2048x8x2x16, .f32⟩
  | 26 => ⟨S2x2048x8x2x16, .f32⟩
  | 27 => ⟨S2x2048x8x2x16, .f32⟩
  | 28 => ⟨S2x2048x8x2x16, .f32⟩
  | 29 => ⟨S2x2048x8x2x64, .f32⟩
  | 30 => ⟨S2x2304x8x2x64, .f32⟩
  | 31 => ⟨S2x2048x8x128, .f32⟩
  | 32 => ⟨S2x2304x8x128, .f32⟩
  | 33 => ⟨S64, .f32⟩
  | 34 => ⟨S_, .f32⟩
  | 35 => ⟨S_, .f32⟩
  | 36 => ⟨S_, .f32⟩
  | 37 => ⟨S64, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S2x2x8x2048x2304, .f32⟩
  | 45 => ⟨S_, .f32⟩
  | 46 => ⟨S2x2x8x2048x2304, .f32⟩
  | 47 => ⟨S2x2x8x2048x2304, .f32⟩
  | 48 => ⟨S_, .f32⟩
  | 49 => ⟨S2x2x8x2048, .f32⟩
  | 50 => ⟨S_, .f32⟩
  | 51 => ⟨S2x2x8x2048, .f32⟩
  | 52 => ⟨S2x2x8x2048, .f32⟩
  | 53 => ⟨S2x2x8x2048x1, .f32⟩
  | 54 => ⟨S2x2x8x2048x2304, .f32⟩
  | 55 => ⟨S2x2x8x2048x2304, .f32⟩
  | 56 => ⟨S2x2x8x2048x2304, .f32⟩
  | 57 => ⟨S_, .f32⟩
  | 58 => ⟨S2x2x8x2048, .f32⟩
  | 59 => ⟨S2x2x8x2048x1, .f32⟩
  | 60 => ⟨S2x2x8x2048x2304, .f32⟩
  | 61 => ⟨S2x2x8x2048x2304, .f32⟩
  | 62 => ⟨S2x1x8x2048x2304, .f32⟩
  | 63 => ⟨S2x8x2048x2304, .f32⟩
  | 64 => ⟨S2x1x8x2048x2304, .f32⟩
  | 65 => ⟨S2x8x2048x2304, .f32⟩
  | 66 => ⟨S2x8x2048x2304, .f32⟩
  | 67 => ⟨S2x8x2048x2304, .f32⟩
  | 68 => ⟨S2x8x2048x2304, .f32⟩
  | 69 => ⟨S2x8x128x2048, .f32⟩
  | 70 => ⟨S2x2048x8x128, .f32⟩
  | 71 => ⟨S2x2048x8x128, .f32⟩
  | 72 => ⟨S_, .f32⟩
  | 73 => ⟨S2x2048x8, .f32⟩
  | 74 => ⟨S2x2048x8x1, .f32⟩
  | 75 => ⟨S_, .f32⟩
  | 76 => ⟨S2x2048x8x1, .f32⟩
  | 77 => ⟨S2x2048x8x1, .f32⟩
  | 78 => ⟨S_, .f32⟩
  | 79 => ⟨S2x2048x8x1, .f32⟩
  | 80 => ⟨S2x2048x8x1, .f32⟩
  | 81 => ⟨S2x2048x8x1, .f32⟩
  | 82 => ⟨S2x2048x8x128, .f32⟩
  | 83 => ⟨S2x2048x8x128, .f32⟩
  | 84 => ⟨S1x1x1x128, .f32⟩
  | 85 => ⟨S2x2048x8x128, .f32⟩
  | 86 => ⟨S2x2048x8x128, .f32⟩
  | 87 => ⟨S_, .f32⟩
  | 88 => ⟨S2x2048x8x128, .f32⟩
  | 89 => ⟨S2x2048x8x128, .f32⟩
  | 90 => ⟨S4096x1024, .f32⟩
  | 91 => ⟨S4096x1024, .bf16⟩
  | _ => ⟨S50x12288x128, .f32⟩

abbrev hbmTy (i : Nat) : BufTy := match i / 128 with
  | 0 => hbmTy0_0 i
  | 1 => hbmTy0_1 i
  | _ => ⟨S50x12288x128, .f32⟩

abbrev bufTy : (tb : Table) → Fin (tcTables nBuf tb) → BufTy
  | .hbm, ⟨i, _⟩ => hbmTy i
  | _, _ => ⟨S50x12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_4 : Ref sig .tc := ⟨.hbm, 104, rfl⟩
abbrev main_v89 : Ref sig .tc := ⟨.hbm, 105, rfl⟩
abbrev main_v90 : Ref sig .tc := ⟨.hbm, 106, rfl⟩
abbrev main_cst_5 : Ref sig .tc := ⟨.hbm, 107, rfl⟩
abbrev main_v91 : Ref sig .tc := ⟨.hbm, 108, rfl⟩
abbrev main_v92 : Ref sig .tc := ⟨.hbm, 109, rfl⟩
abbrev main_cst_6 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_cst_7 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_cst_8 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_cst_9 : Ref sig .tc := ⟨.hbm, 170, rfl⟩
abbrev main_v150 : Ref sig .tc := ⟨.hbm, 171, rfl⟩
abbrev main_v151 : Ref sig .tc := ⟨.hbm, 172, rfl⟩
abbrev main_cst_10 : Ref sig .tc := ⟨.hbm, 173, rfl⟩
abbrev main_v152 : Ref sig .tc := ⟨.hbm, 174, rfl⟩
abbrev main_v153 : Ref sig .tc := ⟨.hbm, 175, rfl⟩
abbrev main_cst_11 : Ref sig .tc := ⟨.hbm, 176, rfl⟩
abbrev main_v154 : Ref sig .tc := ⟨.hbm, 177, rfl⟩
abbrev main_cst_12 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_13 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_cst_14 : Ref sig .tc := ⟨.hbm, 200, rfl⟩
abbrev main_v175 : Ref sig .tc := ⟨.hbm, 201, rfl⟩
abbrev main_v176 : Ref sig .tc := ⟨.hbm, 202, rfl⟩
abbrev main_cst_15 : Ref sig .tc := ⟨.hbm, 203, rfl⟩
abbrev main_v177 : Ref sig .tc := ⟨.hbm, 204, rfl⟩
abbrev main_v178 : Ref sig .tc := ⟨.hbm, 205, rfl⟩
abbrev main_cst_16 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_cst_17 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩

abbrev nD : Nat := 1
abbrev τ : Topo := Topo.v7x

variable {F : FTy → Type} [FloatOps F]
-- ==== Proof.Attn.Spec.lean ====
/-
  Differential attention over one block of 256 tokens and one head, over the extended reals: the functions that both
  the kernel's block and the reference's result are read as, and the few laws that carry one form to the other.
-/
module

public import Idealize.ShloMosaic.PureOps.Ideal.Laws
public import Idealize.ShloMosaic.Lib.IdealHost
public import Idealize.ShloMosaic.Lib.Pointwise
public import Idealize.ShloMosaic.Lib.WordCmp

@[expose] public section

noncomputable section

namespace Cert.Attn

open Idealize.ShloMosaic Idealize.ShloMosaic.WordCmp

/-- The literal 1e-6 under the reciprocal root. -/
abbrev eps : EReal := Ideal.ofBits FTy.f32 897988541#32
/-- The literal 64, the width of half a head. -/
abbrev lit64 : EReal := Ideal.ofBits FTy.f32 0x42800000#32
/-- The literal 1/64. -/
abbrev inv64 : EReal := Ideal.ofBits FTy.f32 1015021568#32
/-- The literal 128, the width of a head's values. -/
abbrev lit128 : EReal := Ideal.ofBits FTy.f32 1124073472#32
/-- The literal 1/8, the scale of the scores. -/
abbrev scale : EReal := Ideal.ofBits FTy.f32 1040187392#32
/-- The literal that starts a maximum. -/
abbrev negInf : EReal := Ideal.ofBits FTy.f32 4286578688#32

theorem lit64_eq : lit64 = ((64 : ℝ) : EReal) := by
  simp [lit64, Ideal.ofBits, Ideal.ieee]; norm_cast; norm_num
theorem inv64_eq : inv64 = ((1 / 64 : ℝ) : EReal) := by
  simp [inv64, Ideal.ofBits, Ideal.ieee]; norm_cast; norm_num
theorem scale_eq : scale = ((1 / 8 : ℝ) : EReal) := by
  simp [scale, Ideal.ofBits, Ideal.ieee]; norm_cast; norm_num
theorem eps_pos : ∃ e : ℝ, 0 < e ∧ eps = (e : EReal) := by
  refine ⟨_, ?_, by simp [eps, Ideal.ofBits, Ideal.ieee]; norm_cast⟩
  norm_num
theorem negInf_eq : negInf = ⊥ := by
  simp [negInf, Ideal.ofBits, Ideal.ieee]

/-- A product with 1/64 is the quotient by 64. -/
theorem mul_inv64 (x : EReal) : x * inv64 = Ideal.div x lit64 := by
  rw [lit64_eq, Ideal.div_coe (by norm_num), inv64_eq]

/-- A finite sum times the scale is the sum of the scaled terms. -/
theorem sum_mul_scale {ι : Type} (s : Finset ι) (f : ι → EReal) : (∑ i ∈ s, f i) * scale = ∑ i ∈ s, f i * scale := by
  classical
  have h0 : (0 : EReal) ≤ scale := by rw [scale_eq]; exact_mod_cast (by norm_num : (0 : ℝ) ≤ 1 / 8)
  have h1 : scale ≠ ⊤ := by rw [scale_eq]; exact EReal.coe_ne_top _
  induction s using Finset.induction_on with
  | empty => simp
  | insert a s ha ih =>
    rw [Finset.sum_insert ha, Finset.sum_insert ha, EReal.right_distrib_of_nonneg_of_ne_top h0 h1, ih]

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The root-mean-square norm of 64 entries -/

/-- `x` at `d` over the root mean square of its 64 entries, times the gain. -/
def nrm (x g : Fin 64 → EReal) (d : Fin 64) : EReal :=
  x d * Ideal.rsqrt (Ideal.div (∑ e, x e * x e) lit64 + eps) * g d

/-- The square of an extended real is not negative. -/
theorem sq_nonneg' (x : EReal) : 0 ≤ x * x := by
  rcases le_total 0 x with h | h
  · exact mul_nonneg h h
  · exact EReal.mul_nonneg_iff.mpr (Or.inr ⟨h, h⟩)

/-- With a finite gain the norm is finite, whatever the entries are: an infinite entry makes the root's
    reciprocal zero. -/
theorem nrm_real (x g : Fin 64 → EReal) (d : Fin 64) (hg : ∃ r : ℝ, g d = r) : ∃ r : ℝ, nrm x g d = r := by
  obtain ⟨gr, hg⟩ := hg
  obtain ⟨er, her, he⟩ := eps_pos
  by_cases h : ∀ e, x e ≠ ⊤ ∧ x e ≠ ⊥
  · have hx : ∀ e, x e = ((x e).toReal : EReal) := fun e => (EReal.coe_toReal (h e).1 (h e).2).symm
    have hs : ∑ e, x e * x e = ((∑ e, (x e).toReal * (x e).toReal : ℝ) : EReal) := by
      rw [coe_sum]
      exact Finset.sum_congr rfl fun e _ => by rw [EReal.coe_mul, ← hx e]
    have hp : (0 : ℝ) ≤ ∑ e, (x e).toReal * (x e).toReal := Finset.sum_nonneg fun e _ => mul_self_nonneg _
    unfold nrm
    rw [hs, lit64_eq, Ideal.div_coe (by norm_num), he, hg, hx d, ← EReal.coe_mul, ← EReal.coe_add]
    have hq : (0 : ℝ) < (∑ e, (x e).toReal * (x e).toReal) * (1 / 64) + er := by positivity
    generalize (∑ e, (x e).toReal * (x e).toReal) * (1 / 64) + er = q at hq
    refine ⟨(x d).toReal * (Real.sqrt q)⁻¹ * gr, ?_⟩
    rw [Ideal.rsqrt_coe, if_neg (not_lt.mpr hq.le), if_neg hq.ne']
    norm_cast
  · have hs : ∑ e, x e * x e = ⊤ := by
      push Not at h
      obtain ⟨e, he⟩ := h
      have : x e * x e = ⊤ := by
        by_cases ht : x e = ⊤
        · rw [ht]; rfl
        · rw [he ht]; rfl
      exact top_le_iff.mp (this ▸ Finset.single_le_sum (f := fun e => x e * x e) (fun i _ => sq_nonneg' _) (Finset.mem_univ e))
    refine ⟨0, ?_⟩
    unfold nrm
    rw [hs, lit64_eq, Ideal.div_coe (by norm_num), he, EReal.top_mul_coe_of_pos (by norm_num), EReal.top_add_coe]
    rw [Ideal.rsqrt_top, mul_zero, zero_mul]; rfl

/-! ## The softmax of a row of 256 scores -/

/-- The greatest of 256 scores. -/
def top (s : Fin 256 → EReal) : EReal := Finset.fold max negInf s Finset.univ

/-- The greatest is at least the literal that starts it. -/
theorem max_top (s : Fin 256 → EReal) : max negInf (top s) = top s := by rw [negInf_eq]; exact bot_sup_eq _

/-- The softmax of 256 scores, at `t`. -/
def prob (s : Fin 256 → EReal) (t : Fin 256) : EReal :=
  Ideal.div (Ideal.exp (s t - top s)) (∑ u, Ideal.exp (s u - top s))

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- Of finite scores the greatest is one of them, so its term is one and the softmax's denominator is not zero. -/
theorem denom_ne_zero (s : Fin 256 → EReal) (hs : ∀ u, ∃ r : ℝ, s u = r) : ∑ u, Ideal.exp (s u - top s) ≠ 0 := by
  obtain ⟨u, hu⟩ : ∃ u, top s = s u := by
    have h : top s = Finset.univ.sup' Finset.univ_nonempty s := by
      rw [Finset.sup'_eq_sup, top, negInf_eq]; rfl
    obtain ⟨u, -, hu⟩ := Finset.exists_mem_eq_sup' Finset.univ_nonempty s
    exact ⟨u, h.trans hu⟩
  obtain ⟨r, hr⟩ := hs u
  have h1 : Ideal.exp (s u - top s) = 1 := by
    rw [hu, hr, ← EReal.coe_sub, sub_self, Ideal.exp_coe, Real.exp_zero]; rfl
  have h2 : (1 : EReal) ≤ ∑ u, Ideal.exp (s u - top s) :=
    h1 ▸ Finset.single_le_sum (f := fun u => Ideal.exp (s u - top s)) (fun i _ => exp_nonneg _) (Finset.mem_univ u)
  intro h0; rw [h0] at h2; exact absurd h2 (by simp)

/-- Of finite scores, the term times the reciprocal of the denominator is the softmax. -/
theorem prob_of_real (s : Fin 256 → EReal) (hs : ∀ u, ∃ r : ℝ, s u = r) (t : Fin 256) :
    Ideal.exp (s t - top s) * Ideal.div 1 (∑ u, Ideal.exp (s u - top s)) = prob s t :=
  Ideal.mul_one_div (denom_ne_zero s hs)

/-- The scaled product of a query and a key. -/
def score (q k : Fin 64 → EReal) : EReal := (∑ d, q d * k d) * scale

/-- Scaling the query first gives the same score. -/
theorem score_eq (q k : Fin 64 → EReal) : ∑ d, q d * scale * k d = score q k := by
  rw [score, sum_mul_scale]
  exact Finset.sum_congr rfl fun d _ => by rw [mul_assoc, mul_comm scale, ← mul_assoc]

/-- The score of a finite query and a finite key is finite. -/
theorem score_real (q k : Fin 64 → EReal) (hq : ∀ d, ∃ r : ℝ, q d = r) (hk : ∀ d, ∃ r : ℝ, k d = r) :
    ∃ r : ℝ, score q k = r := by
  choose q' hq using hq
  choose k' hk using hk
  refine ⟨(∑ d, q' d * k' d) * (1 / 8), ?_⟩
  rw [score, scale_eq, EReal.coe_mul, coe_sum]
  simp only [hq, hk, EReal.coe_mul]

/-! ## The attention -/

/-- The two softmaxes of a query's rows of scores, the second weighed by `lam`, over the values. -/
def mix (q k : Fin 256 → Fin 2 → Fin 64 → EReal) (v : Fin 256 → Fin 128 → EReal) (lam : EReal) (r : Fin 256)
    (l : Fin 128) : EReal :=
  ∑ t, (prob (fun u => score (q r 0) (k u 0)) t - lam * prob (fun u => score (q r 1) (k u 1)) t) * v t l

/-- The literal that the normalised output is multiplied by. -/
abbrev litOut : EReal := Ideal.ofBits FTy.f32 1061997773#32

/-- A row of 128 over its root mean square, times the gain and the output's factor. -/
def outn (o g : Fin 128 → EReal) (l : Fin 128) : EReal :=
  o l * Ideal.rsqrt (Ideal.div (∑ j, o j * o j) lit128 + eps) * g l * litOut

/-- The weight of the second softmax, from the four vectors it is learned as. -/
def lamOf (a b c d : Fin 64 → EReal) : EReal :=
  Ideal.exp (∑ i, a i * b i) - Ideal.exp (∑ i, c i * d i) + Ideal.ofBits FTy.f32 1045220557#32

/-! ## Sums over 128 lanes under the half's mask -/

/-- Lane `d` of half `c`. -/
abbrev lane (c : Fin 2) (d : Fin 64) : Fin 128 := ⟨c.val * 64 + d.val, by omega⟩

theorem mask_lo (d : Fin 64) : IntOp.cmpi .slt (BitVec.ofNat 32 (lane 0 d).val) 64#32 = 1#1 := by
  rw [show (64#32 : BitVec 32) = BitVec.ofNat 32 64 from rfl, cmpi_slt_ofNat_eq_one_iff (by have := d.isLt; simp; omega) (by decide)]
  show 0 * 64 + d.val < 64; omega
theorem mask_hi (d : Fin 64) : IntOp.cmpi .slt (BitVec.ofNat 32 (lane 1 d).val) 64#32 = 0#1 := by
  rw [show (64#32 : BitVec 32) = BitVec.ofNat 32 64 from rfl, cmpi_slt_ofNat_eq_zero_iff (by have := d.isLt; simp; omega) (by decide)]
  show ¬ 1 * 64 + d.val < 64; omega

theorem sum_lanes (f : Fin 128 → EReal) : ∑ x, f x = (∑ d, f (lane 0 d)) + ∑ d, f (lane 1 d) := by
  rw [Fin.sum_univ_two_halves 64 64 rfl f]
  refine congrArg (· + _) ?_
  exact Finset.sum_congr rfl fun d _ => congrArg f (Fin.ext (by simp))

/-- A sum of the lanes that the mask keeps is the sum over the first half. -/
theorem sum_lo (f : Fin 128 → EReal) :
    ∑ x : Fin 128, Scalar.select (IntOp.cmpi .slt (BitVec.ofNat 32 x.val) 64#32) (f x) 0 = ∑ d, f (lane 0 d) := by
  rw [sum_lanes, Finset.sum_congr rfl fun d _ => congrArg (fun b => Scalar.select b (f (lane 0 d)) (0 : EReal)) (mask_lo d),
    Finset.sum_congr rfl fun d _ => congrArg (fun b => Scalar.select b (f (lane 1 d)) (0 : EReal)) (mask_hi d)]
  simp only [select_one, select_zero, Finset.sum_const_zero, add_zero]
/-- A sum of the lanes that the mask drops is the sum over the second half. -/
theorem sum_hi (f : Fin 128 → EReal) :
    ∑ x : Fin 128, Scalar.select (IntOp.cmpi .slt (BitVec.ofNat 32 x.val) 64#32) 0 (f x) = ∑ d, f (lane 1 d) := by
  rw [sum_lanes, Finset.sum_congr rfl fun d _ => congrArg (fun b => Scalar.select b (0 : EReal) (f (lane 0 d))) (mask_lo d),
    Finset.sum_congr rfl fun d _ => congrArg (fun b => Scalar.select b (0 : EReal) (f (lane 1 d))) (mask_hi d)]
  simp only [select_one, select_zero, Finset.sum_const_zero, zero_add]

end Cert.Attn
-- ==== Proof.Attn.Block.lean ====
/-
  What one grid point of the context attention stores, read at an index of its block: the normalised keys, the values
  and the attention's output, as the functions of the specification at the point's loaded blocks.
-/
module

public import proofs.«01_k».proof.Proof.Gen.KernelIdeal.Skeleton
public import proofs.«01_k».proof.Proof.Attn.Spec
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- The row of a slab's block, as two halves of 64 lanes. -/
def halves (x : Vec Ideal S1x256x128 .f32) (r : Fin 256) (c : Fin 2) (e : Fin 64) : EReal := x (ix3 0 r (lane c e))

/-- The normalised row of a slab's block. -/
def normed (x : Vec Ideal S1x256x128 .f32) (g : Fin 64 → EReal) (r : Fin 256) (c : Fin 2) (d : Fin 64) : EReal :=
  nrm (halves x r c) g d

variable (x : Vec Ideal S1x256x128 .f32) (w : Vec Ideal S1x128 .f32) (g : Fin 64 → EReal)

/-- The stored keys are the normalised ones. -/
theorem keys_at (hg : ∀ (c : Fin 2) (d : Fin 64), w (ix2 0 (lane c d)) = g d) (r : Fin 256) (c : Fin 2) (d : Fin 64) :
    k0_pay2 x w (ix2 r (lane c d)) = normed x g r c d := by
  pointwise [k0_pay2]
  rw [sum_lo fun l => x (ix3 0 r l) * x (ix3 0 r l), sum_hi fun l => x (ix3 0 r l) * x (ix3 0 r l), hg, mul_inv64,
    mul_inv64]
  match c with
  | 0 => rw [mask_lo]; rfl
  | 1 => rw [mask_hi]; rfl

/-- The keys that the scores read. -/
theorem keysS_at (hg : ∀ (c : Fin 2) (d : Fin 64), w (ix2 0 (lane c d)) = g d) (r : Fin 256) (c : Fin 2) (d : Fin 64) :
    k0_pay3 x w (ix2 r (lane c d)) = normed x g r c d := by
  rw [← keys_at x w g hg]
  pointwise [k0_pay3, k0_pay2]

/-- The stored values are the loaded ones. -/
theorem values_at (r : Fin 256) (l : Fin 128) : k0_pay4 x (ix2 r l) = x (ix3 0 r l) := by
  pointwise [k0_pay4]

/-- The values that the products read. -/
theorem valuesS_at (r : Fin 256) (l : Fin 128) : k0_pay5 x (ix2 r l) = x (ix3 0 r l) := by
  pointwise [k0_pay5, k0_pay4]

/-- The scaled queries. -/
theorem queries_at (hg : ∀ (c : Fin 2) (d : Fin 64), w (ix2 0 (lane c d)) = g d) (r : Fin 256) (c : Fin 2) (d : Fin 64) :
    k0_pay15 (k0_pay6 x) (k0_pay7 w) k0_pay8 (k0_pay10 x) (k0_pay11 x) (ix2 r (lane c d)) = normed x g r c d * scale := by
  pointwise [k0_pay15, k0_pay6, k0_pay7, k0_pay8, k0_pay10, k0_pay11, k0_pay9]
  rw [sum_lo fun l => x (ix3 0 r l) * x (ix3 0 r l), sum_hi fun l => x (ix3 0 r l) * x (ix3 0 r l), hg, mul_inv64,
    mul_inv64]
  match c with
  | 0 => rw [mask_lo]; rfl
  | 1 => rw [mask_hi]; rfl

variable (y : Vec Ideal S1x256x128 .f32) (w' : Vec Ideal S1x128 .f32) (g' : Fin 64 → EReal)

/-- The second half's scores. -/
theorem scores1_at (hg : ∀ (c : Fin 2) (d : Fin 64), w (ix2 0 (lane c d)) = g d)
    (hg' : ∀ (c : Fin 2) (d : Fin 64), w' (ix2 0 (lane c d)) = g' d) (r t : Fin 256) :
    k0_pay16 (k0_pay6 x) (k0_pay7 w) k0_pay8 (k0_pay10 x) (k0_pay11 x) (k0_pay3 y w') (ix2 r t)
      = score (normed x g r 1) (normed y g' t 1) := by
  pointwise [k0_pay16, k0_pay14]
  rw [sum_hi fun l => k0_pay15 (k0_pay6 x) (k0_pay7 w) k0_pay8 (k0_pay10 x) (k0_pay11 x) (ix2 r l) * k0_pay3 y w' (ix2 t l)]
  simp only [queries_at x w g hg, keysS_at y w' g' hg']
  exact score_eq _ _

/-- The exponentials of the first half's scores below their greatest. -/
theorem exps0_at (hg : ∀ (c : Fin 2) (d : Fin 64), w (ix2 0 (lane c d)) = g d)
    (hg' : ∀ (c : Fin 2) (d : Fin 64), w' (ix2 0 (lane c d)) = g' d) (r t : Fin 256) :
    k0_pay17 (k0_pay6 x) (k0_pay7 w) k0_pay8 (k0_pay10 x) (k0_pay11 x) (k0_pay3 y w') (ix2 r t)
      = Ideal.exp (score (normed x g r 0) (normed y g' t 0) - top fun u => score (normed x g r 0) (normed y g' u 0)) := by
  have h : ∀ t : Fin 256, (∑ l : Fin 128, Scalar.select (IntOp.cmpi .slt (BitVec.ofNat 32 l.val) 64#32)
      (k0_pay15 (k0_pay6 x) (k0_pay7 w) k0_pay8 (k0_pay10 x) (k0_pay11 x) (ix2 r l) * k0_pay3 y w' (ix2 t l)) 0)
      = score (normed x g r 0) (normed y g' t 0) := fun t => by
    rw [sum_lo fun l => k0_pay15 (k0_pay6 x) (k0_pay7 w) k0_pay8 (k0_pay10 x) (k0_pay11 x) (ix2 r l) * k0_pay3 y w' (ix2 t l)]
    simp only [queries_at x w g hg, keysS_at y w' g' hg']
    exact score_eq _ _
  pointwise [k0_pay17, k0_pay14]
  simp only [h]
  rfl

/-- The weight of the second softmax. -/
theorem lam_at (p : Vec Ideal S4x64 .f32) :
    k0_pay12 p (ix2 0 0) = lamOf (fun i => p (ix2 0 i)) (fun i => p (ix2 1 i)) (fun i => p (ix2 2 i)) fun i => p (ix2 3 i) := by
  pointwise [k0_pay12]
  rfl

/-- The stored output, of finite scores. -/
theorem out_at (a : FVec Ideal S1x1 .f32) (dg : FVec Ideal S1x128 .f32) (s1 e0 : FVec Ideal S256x256 .f32)
    (v : FVec Ideal S256x128 .bf16) (s : Fin 2 → Fin 256 → Fin 256 → EReal) (hs : ∀ c r t, ∃ q : ℝ, s c r t = q)
    (h1 : ∀ r t, s1 (ix2 r t) = s 1 r t) (h0 : ∀ r t, e0 (ix2 r t) = Ideal.exp (s 0 r t - top (s 0 r)))
    (r : Fin 256) (l : Fin 128) :
    k0_pay1 a dg s1 e0 v (ix2 r l)
      = outn (fun j => ∑ t, (prob (s 0 r) t - a (ix2 0 0) * prob (s 1 r) t) * v (ix2 t j)) (fun j => dg (ix2 0 j)) l := by
  pointwise [k0_pay1]
  simp only [h0, h1]
  have e1 : ∀ t, Ideal.exp (s 1 r t - Finset.fold max negInf (fun u => s 1 r u) Finset.univ)
      * Ideal.div 1 (∑ u, Ideal.exp (s 1 r u - Finset.fold max negInf (fun u => s 1 r u) Finset.univ)) = prob (s 1 r) t :=
    prob_of_real (s 1 r) (hs 1 r)
  simp only [e1, prob_of_real (s 0 r) (hs 0 r)]
  rfl

end Cert.KernelIdeal.Attn
-- ==== Proof.Attn.Scores.lean ====
/-
  The reference's normalised queries and keys and their scores, read at an index.
-/
module

public import proofs.«01_k».proof.Proof.Gen.ReferenceIdeal.Read
public import proofs.«01_k».proof.Proof.Attn.Spec
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Cert.Attn

variable (X : FVec Ideal S50x12288x128 .f32) (g gk : FVec Ideal S64 .f32)

/-- The row that slab `a + h` holds for token `r` of sequence `b`. -/
def row (a : Nat) (ha : a + 8 ≤ 50) (b : Fin 32) (h : Fin 8) (r : Fin 256) (l : Fin 128) : EReal :=
  X (ix3 ⟨a + h.val, by omega⟩ ⟨b.val * 256 + r.val, by omega⟩ l)

/-- Half `c` of that row, normalised. -/
def unit (a : Nat) (ha : a + 8 ≤ 50) (b : Fin 32) (h : Fin 8) (r : Fin 256) (c : Fin 2) (d : Fin 64) : EReal :=
  nrm (fun e => row X a ha b h r (lane c e)) (fun d => g (ix1 d)) d

/-- The scores of head `h`'s half `c` in sequence `b`. -/
def scores (b : Fin 32) (h : Fin 8) (c : Fin 2) (r t : Fin 256) : EReal :=
  score (unit X g 24 (by omega) b h r c) (unit X gk 32 (by omega) b h t c)

/-- The normalised queries. -/
theorem v22_at (b : Fin 32) (r : Fin 256) (h : Fin 8) (c : Fin 2) (d : Fin 64) :
    val_main_v22 (F := Ideal) X g (ix5 b r h c d) = unit X g 24 (by omega) b h r c d := by
  pointwise [val_main_v22, val_main_v21, val_main_v20, val_main_v19, val_main_v18, val_main_v17, val_main_v16, val_main_v15, val_main_v14, val_main_v13, val_main_v12, val_main_v11, val_main_v10, val_main_v9, val_main_v2, val_main_v1, val_main_v0, val_main_cst, val_main_cst_0, val_main_cst_1]
  rfl

/-- The normalised keys. -/
theorem v36_at (b : Fin 32) (r : Fin 256) (h : Fin 8) (c : Fin 2) (d : Fin 64) :
    val_main_v36 (F := Ideal) X g (ix5 b r h c d) = unit X g 32 (by omega) b h r c d := by
  pointwise [val_main_v36, val_main_v35, val_main_v34, val_main_v33, val_main_v32, val_main_v31, val_main_v30, val_main_v29, val_main_v28, val_main_v27, val_main_v26, val_main_v25, val_main_v24, val_main_v23, val_main_v5, val_main_v4, val_main_v3, val_main_cst_2, val_main_cst_3, val_main_cst_4]
  rfl

/-- The scores. -/
theorem v48_at (b : Fin 32) (r t : Fin 256) (h : Fin 8) (c : Fin 2) :
    val_main_v48 (F := Ideal) X g gk (ix5 b c h r t) = scores X g gk b h c r t := by
  pointwise [val_main_v48, val_main_v47, val_main_cst_8, val_main_v46]
  simp only [v22_at, v36_at]
  rfl

/-- The scores lose their last axis. -/
theorem red : S32x2x8x256x256.Reduces [4] S32x2x8x256 := by decide

/-- The host's maximum along the last axis, of any array. -/
theorem max_at (y : S32x2x8x256x256.Idx → EReal) (z : S_.Idx → EReal) (b : Fin 32) (r : Fin 256) (h : Fin 8) (c : Fin 2) :
    Host.reduce (α := EReal) max y z reducesTo_S32x2x8x256x256_S32x2x8x256_d4 h_S_ (ix4 b c h r)
      = Finset.fold max (z (Shape.Idx.first h_S_)) (fun t : Fin 256 => y (ix5 b c h r t)) Finset.univ := by
  rw [Host.reduce_eq_fold_single max y z reducesTo_S32x2x8x256x256_S32x2x8x256_d4 red h_S_ (ix4 b c h r)]
  refine Finset.fold_congr fun t _ => congrArg y (funext fun a => Fin.ext ?_)
  match a with
  | ⟨0, _⟩ => simp [Shape.Reduces.lift_val, Shape.Reduces.liftVal]
  | ⟨1, _⟩ => simp [Shape.Reduces.lift_val, Shape.Reduces.liftVal]
  | ⟨2, _⟩ => simp [Shape.Reduces.lift_val, Shape.Reduces.liftVal]
  | ⟨3, _⟩ => simp [Shape.Reduces.lift_val, Shape.Reduces.liftVal]
  | ⟨4, _⟩ => simp [Shape.Reduces.lift_val, Shape.Reduces.liftVal]

/-- The same of the operation's own name. -/
theorem maxI_at (y : FVec Ideal S32x2x8x256x256 .f32) (z : FVec Ideal S_ .f32) (b : Fin 32) (r : Fin 256) (h : Fin 8) (c : Fin 2) :
    Host.reduce (α := EReal) (FloatOps.maximumf (F := Ideal) (φ := .f32)) y z reducesTo_S32x2x8x256x256_S32x2x8x256_d4 h_S_ (ix4 b c h r)
      = Finset.fold max (z (Shape.Idx.first h_S_)) (fun t : Fin 256 => y (ix5 b c h r t)) Finset.univ := max_at y z b r h c
/-- The maximum, at its operation. -/
theorem v49_eq : val_main_v49 (F := Ideal) X g gk = Host.reduce (FloatOps.maximumf (F := Ideal) (φ := .f32)) (val_main_v48 (F := Ideal) X g gk) (val_main_cst_9 (F := Ideal)) reducesTo_S32x2x8x256x256_S32x2x8x256_d4 h_S_ := by
  unfold val_main_v49; rfl
/-- The maximum, as a fold over the keys. -/
theorem v49_at0 (b : Fin 32) (r : Fin 256) (h : Fin 8) (c : Fin 2) :
    val_main_v49 (F := Ideal) X g gk (ix4 b c h r) = Finset.fold max (val_main_cst_9 (F := Ideal) (Shape.Idx.first h_S_)) (fun t : Fin 256 => val_main_v48 (F := Ideal) X g gk (ix5 b c h r t)) Finset.univ := by
  rw [v49_eq]
  generalize val_main_v48 (F := Ideal) X g gk = y
  exact maxI_at y _ b r h c
/-- The greatest score of a row. -/
theorem v49_at (b : Fin 32) (r : Fin 256) (h : Fin 8) (c : Fin 2) :
    val_main_v49 (F := Ideal) X g gk (ix4 b c h r) = top (scores X g gk b h c r) := by
  rw [v49_at0, funext fun t => v48_at X g gk b r t h c]
  generalize scores X g gk b h c r = y
  pointwise [val_main_cst_9]
  rfl
/-- The scores below their greatest. -/
theorem v54_at (b : Fin 32) (r t : Fin 256) (h : Fin 8) (c : Fin 2) :
    val_main_v54 (F := Ideal) X g gk (ix5 b c h r t) = scores X g gk b h c r t - top (scores X g gk b h c r) := by
  have e : idx_main_v52 (idx_main_v53 (ix5 b c h r t)) = ix4 b c h r :=
    funext fun a => match a with | ⟨0, _⟩ => rfl | ⟨1, _⟩ => rfl | ⟨2, _⟩ => rfl | ⟨3, _⟩ => rfl
  rw [val_main_v54_apply, val_main_v53_apply, val_main_v52_apply, val_main_v51_apply, e, v49_at, v48_at, val_main_v50_apply,
    val_main_cst_10_apply]
  exact congrArg (scores X g gk b h c r t - ·) (max_top _)

/-- The softmax's denominator. -/
theorem v56_at (b : Fin 32) (r : Fin 256) (h : Fin 8) (c : Fin 2) :
    val_main_v56 (F := Ideal) X g gk (ix4 b c h r) = ∑ u, Ideal.exp (scores X g gk b h c r u - top (scores X g gk b h c r)) := by
  have e : ∀ u, val_main_v55 (F := Ideal) X g gk (ix5 b c h r u) = Ideal.exp (scores X g gk b h c r u - top (scores X g gk b h c r)) := fun u => by
    rw [← v54_at]; rfl
  simp only [← e]
  unfold val_main_v56
  generalize val_main_v55 (F := Ideal) X g gk = y
  pointwise [val_main_cst_11]

/-- The softmax of the scores. -/
theorem v59_at (b : Fin 32) (r t : Fin 256) (h : Fin 8) (c : Fin 2) :
    val_main_v59 (F := Ideal) X g gk (ix5 b c h r t) = prob (scores X g gk b h c r) t := by
  pointwise [val_main_v59, val_main_v58, val_main_v57, val_main_v55]
  rw [v56_at, v54_at]
  rfl

end Cert.ReferenceIdeal.Attn
-- ==== Proof.Attn.Ref.lean ====
/-
  The reference's three results, read at an index: the functions of the specification at the projected array, the gains
  and the four vectors of the second softmax's weight.
-/
module

public import proofs.«01_k».proof.Proof.Gen.ReferenceIdeal.Read
public import proofs.«01_k».proof.Proof.Attn.Scores
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Cert.Attn

variable (X : FVec Ideal S50x12288x128 .f32) (g gk : FVec Ideal S64 .f32)

variable (a1 a2 a3 a4 : FVec Ideal S64 .f32) (dg : FVec Ideal S128 .f32)

/-- The two softmaxes over the values. -/
def mixed (b : Fin 32) (r : Fin 256) (h : Fin 8) (l : Fin 128) : EReal :=
  ∑ t, (prob (scores X g gk b h 0 r) t - lamOf (fun i => a1 (ix1 i)) (fun i => a2 (ix1 i)) (fun i => a3 (ix1 i)) (fun i => a4 (ix1 i))
    * prob (scores X g gk b h 1 r) t) * row X 40 (by omega) b h t l

/-- The mixed values. -/
theorem v68_at (b : Fin 32) (r : Fin 256) (h : Fin 8) (l : Fin 128) :
    val_main_v68 (F := Ideal) X a1 a2 a3 a4 g gk (ix4 b r h l) = mixed X g gk a1 a2 a3 a4 b r h l := by
  pointwise [val_main_v68, val_main_v67, val_main_v66, val_main_v65, val_main_v64, val_main_v63, val_main_v62, val_main_v61, val_main_v60, val_main_v45, val_main_v44, val_main_v43, val_main_v42, val_main_v41, val_main_v40, val_main_v39, val_main_v38, val_main_cst_5, val_main_cst_6, val_main_cst_7, val_main_v37, val_main_v8, val_main_v7, val_main_v6]
  refine Finset.sum_congr rfl fun t _ => ?_
  rw [v59_at X g gk b r t h 0, v59_at X g gk b r t h 1, mul_comm]
  rfl

/-- The normalised output, before it is laid out by tokens. -/
theorem v83_at (b : Fin 32) (r : Fin 256) (h : Fin 8) (l : Fin 128) :
    val_main_v83 (F := Ideal) X a1 a2 a3 a4 g gk dg (ix4 b r h l)
      = outn (mixed X g gk a1 a2 a3 a4 b r h) (fun j => dg (ix1 j)) l := by
  pointwise [val_main_v83, val_main_v82, val_main_v81, val_main_v80, val_main_v79, val_main_v78, val_main_v77, val_main_v76, val_main_v75, val_main_v74, val_main_v73, val_main_v72, val_main_v71, val_main_v70, val_main_v69, val_main_cst_12, val_main_cst_13, val_main_cst_14, val_main_cst_15]
  simp only [v68_at]
  rfl

/-- The output of the attention. -/
theorem out_at (b : Fin 32) (r : Fin 256) (h : Fin 8) (l : Fin 128) :
    val_main_v85 (F := Ideal) X a1 a2 a3 a4 g gk dg (ix2 ⟨b.val * 256 + r.val, by omega⟩ ⟨h.val * 128 + l.val, by omega⟩)
      = outn (mixed X g gk a1 a2 a3 a4 b r h) (fun j => dg (ix1 j)) l := by
  rw [← v83_at X g gk a1 a2 a3 a4 dg b r h l]
  pointwise [val_main_v85, val_main_v84]

/-- The keys that are stored. -/
theorem keys_at (b : Fin 32) (r : Fin 256) (h : Fin 8) (c : Fin 2) (d : Fin 64) :
    val_main_v86 (F := Ideal) X gk (ix2 ⟨b.val * 256 + r.val, by omega⟩ ⟨h.val * 128 + (lane c d).val, by omega⟩)
      = unit X gk 32 (by omega) b h r c d := by
  rw [← v36_at]
  pointwise [val_main_v86]

/-- The values that are stored. -/
theorem values_at (b : Fin 32) (r : Fin 256) (h : Fin 8) (l : Fin 128) :
    val_main_v87 (F := Ideal) X (ix2 ⟨b.val * 256 + r.val, by omega⟩ ⟨h.val * 128 + l.val, by omega⟩)
      = row X 40 (by omega) b h r l := by
  pointwise [val_main_v87, val_main_v37, val_main_v8, val_main_v7, val_main_v6]
  refine congrArg X (congr (congr (congrArg ix3 (Fin.ext ?_)) (Fin.ext ?_)) (Fin.ext ?_)) <;> simp <;> omega

end Cert.ReferenceIdeal.Attn
-- ==== Proof.Attn.Final.lean ====
/-
  The three arrays that the context attention's grid writes are the reference's three results: block by block, with the
  operands that the host prepares read back to the arguments.
-/
module

public import proofs.«01_k».proof.Proof.Gen.KernelIdeal.Value
public import proofs.«01_k».proof.Proof.Attn.Block
public import proofs.«01_k».proof.Proof.Attn.Ref
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem Cert.Attn
open Idealize.ShloMosaic.Pipeline (Dat)

/-- The blocks of grid point `t`: sequence `t / 8`, head `t % 8`. -/
theorem idx_facts : ∀ t : Fin cfg0.N,
    win0_0.index t = ![0, 0]
    ∧ win0_1.index t = ![24 + t.val % 8, t.val / 8, 0]
    ∧ win0_2.index t = ![32 + t.val % 8, t.val / 8, 0]
    ∧ win0_3.index t = ![40 + t.val % 8, t.val / 8, 0]
    ∧ win0_4.index t = ![0, 0]
    ∧ win0_5.index t = ![0, 0]
    ∧ win0_6.index t = ![0, 0]
    ∧ win0_7.index t = ![t.val / 8, t.val % 8]
    ∧ win0_8.index t = ![t.val / 8, t.val % 8]
    ∧ win0_9.index t = ![t.val / 8, t.val % 8] := (by decide +kernel : ∀ t : Fin grid0.N, _)

variable (m : (ℓ : Loc nD τ sig) → Buf (Elt Ideal) ℓ)

/-! ## The arguments -/

abbrev X (c : Dev nD) : FVec Ideal S50x12288x128 .f32 := m ((c : Thread nD τ).loc main_arg0)
abbrev a1 (c : Dev nD) : FVec Ideal S64 .f32 := m ((c : Thread nD τ).loc main_arg1)
abbrev a2 (c : Dev nD) : FVec Ideal S64 .f32 := m ((c : Thread nD τ).loc main_arg2)
abbrev a3 (c : Dev nD) : FVec Ideal S64 .f32 := m ((c : Thread nD τ).loc main_arg3)
abbrev a4 (c : Dev nD) : FVec Ideal S64 .f32 := m ((c : Thread nD τ).loc main_arg4)
abbrev gq (c : Dev nD) : FVec Ideal S64 .f32 := m ((c : Thread nD τ).loc main_arg5)
abbrev gk (c : Dev nD) : FVec Ideal S64 .f32 := m ((c : Thread nD τ).loc main_arg6)
abbrev dg (c : Dev nD) : FVec Ideal S128 .f32 := m ((c : Thread nD τ).loc main_arg7)

/-! ## The operands that the host prepares -/

theorem lam0 (c : Dev nD) (d : Fin 64) : (V m c main_v4 : Vec Ideal S4x64 .f32) (ix2 0 d) = a1 m c (ix1 d) := by
  unfold V
  after_reads_at
  rw [StableHlo.unary_result', StableHlo.upto_unwritten [] rfl (by decide)]
  pointwise
theorem lam1 (c : Dev nD) (d : Fin 64) : (V m c main_v4 : Vec Ideal S4x64 .f32) (ix2 1 d) = a2 m c (ix1 d) := by
  unfold V
  after_reads_at
  rw [StableHlo.unary_result', StableHlo.upto_unwritten [main_v0] rfl (by decide)]
  pointwise
theorem lam2 (c : Dev nD) (d : Fin 64) : (V m c main_v4 : Vec Ideal S4x64 .f32) (ix2 2 d) = a3 m c (ix1 d) := by
  unfold V
  after_reads_at
  rw [StableHlo.unary_result', StableHlo.upto_unwritten [main_v0, main_v1] rfl (by decide)]
  pointwise
theorem lam3 (c : Dev nD) (d : Fin 64) : (V m c main_v4 : Vec Ideal S4x64 .f32) (ix2 3 d) = a4 m c (ix1 d) := by
  unfold V
  after_reads_at
  rw [StableHlo.unary_result', StableHlo.upto_unwritten [main_v0, main_v1, main_v2] rfl (by decide)]
  pointwise

theorem mod_lane (a : Fin 2) (d : Fin 64) : (a.val * 64 + d.val) % 64 = d.val := by omega

theorem vq (c : Dev nD) (a : Fin 2) (d : Fin 64) : (V m c main_v8 : Vec Ideal S1x128 .f32) (ix2 0 (lane a d)) = gq m c (ix1 d) := by
  entry_read
  pointwise
  exact congrArg (gq m c) (congrArg ix1 (Fin.ext (mod_lane a d)))
theorem vk (c : Dev nD) (a : Fin 2) (d : Fin 64) : (V m c main_v12 : Vec Ideal S1x128 .f32) (ix2 0 (lane a d)) = gk m c (ix1 d) := by
  entry_read
  pointwise
  exact congrArg (gk m c) (congrArg ix1 (Fin.ext (mod_lane a d)))
theorem vd (c : Dev nD) (l : Fin 128) : (V m c main_v13 : Vec Ideal S1x128 .f32) (ix2 0 l) = dg m c (ix1 l) := by
  entry_read
  pointwise

/-! ## The blocks of a grid point -/

theorem bl (c : Dev nD) (t : Fin cfg0.N) (i : Fin 4) (d : Fin 64) :
    (iblk m c 0 t : Vec Ideal S4x64 .f32) (ix2 i d) = (V m c main_v4 : Vec Ideal S4x64 .f32) (ix2 i d) := by
  blk_ext [iblk, idx_facts t]
theorem bq (c : Dev nD) (t : Fin cfg0.N) (l : Fin 128) :
    (iblk m c 4 t : Vec Ideal S1x128 .f32) (ix2 0 l) = (V m c main_v8 : Vec Ideal S1x128 .f32) (ix2 0 l) := by
  blk_ext [iblk, idx_facts t]
theorem bk (c : Dev nD) (t : Fin cfg0.N) (l : Fin 128) :
    (iblk m c 5 t : Vec Ideal S1x128 .f32) (ix2 0 l) = (V m c main_v12 : Vec Ideal S1x128 .f32) (ix2 0 l) := by
  blk_ext [iblk, idx_facts t]
theorem bd (c : Dev nD) (t : Fin cfg0.N) (l : Fin 128) :
    (iblk m c 6 t : Vec Ideal S1x128 .f32) (ix2 0 l) = (V m c main_v13 : Vec Ideal S1x128 .f32) (ix2 0 l) := by
  blk_ext [iblk, idx_facts t]

/-- The point's sequence. -/
abbrev sq (t : Fin cfg0.N) : Fin 32 := ⟨t.val / 8, by have h : t.val < 256 := t.isLt; omega⟩
/-- The point's head. -/
abbrev hd (t : Fin cfg0.N) : Fin 8 := ⟨t.val % 8, by omega⟩

theorem b1 (c : Dev nD) (t : Fin cfg0.N) (r : Fin 256) (l : Fin 128) :
    (iblk m c 1 t : Vec Ideal S1x256x128 .f32) (ix3 0 r l) = ReferenceIdeal.Attn.row (X m c) 24 (by omega) (sq t) (hd t) r l := by
  unfold ReferenceIdeal.Attn.row
  blk_ext [iblk, V, idx_facts t]
theorem b2 (c : Dev nD) (t : Fin cfg0.N) (r : Fin 256) (l : Fin 128) :
    (iblk m c 2 t : Vec Ideal S1x256x128 .f32) (ix3 0 r l) = ReferenceIdeal.Attn.row (X m c) 32 (by omega) (sq t) (hd t) r l := by
  unfold ReferenceIdeal.Attn.row
  blk_ext [iblk, V, idx_facts t]
theorem b3 (c : Dev nD) (t : Fin cfg0.N) (r : Fin 256) (l : Fin 128) :
    (iblk m c 3 t : Vec Ideal S1x256x128 .f32) (ix3 0 r l) = ReferenceIdeal.Attn.row (X m c) 40 (by omega) (sq t) (hd t) r l := by
  unfold ReferenceIdeal.Attn.row
  blk_ext [iblk, V, idx_facts t]

theorem nq (c : Dev nD) (t : Fin cfg0.N) (r : Fin 256) (a : Fin 2) :
    normed (iblk m c 1 t) (fun d => gq m c (ix1 d)) r a = ReferenceIdeal.Attn.unit (X m c) (gq m c) 24 (by omega) (sq t) (hd t) r a := by
  funext d
  exact congrArg (fun x => nrm x (fun d => gq m c (ix1 d)) d) (funext fun e => b1 m c t r (lane a e))
theorem nk (c : Dev nD) (t : Fin cfg0.N) (r : Fin 256) (a : Fin 2) :
    normed (iblk m c 2 t) (fun d => gk m c (ix1 d)) r a = ReferenceIdeal.Attn.unit (X m c) (gk m c) 32 (by omega) (sq t) (hd t) r a := by
  funext d
  exact congrArg (fun x => nrm x (fun d => gk m c (ix1 d)) d) (funext fun e => b2 m c t r (lane a e))

theorem hq (c : Dev nD) (t : Fin cfg0.N) (a : Fin 2) (d : Fin 64) :
    (iblk m c 4 t : Vec Ideal S1x128 .f32) (ix2 0 (lane a d)) = gq m c (ix1 d) := (bq m c t _).trans (vq m c a d)
theorem hk (c : Dev nD) (t : Fin cfg0.N) (a : Fin 2) (d : Fin 64) :
    (iblk m c 5 t : Vec Ideal S1x128 .f32) (ix2 0 (lane a d)) = gk m c (ix1 d) := (bk m c t _).trans (vk m c a d)

/-- A lane, by its half and its place in it. -/
theorem lane_split (l : Fin 128) : ∃ (a : Fin 2) (d : Fin 64), l = lane a d :=
  ⟨⟨l.val / 64, by omega⟩, ⟨l.val % 64, by omega⟩, Fin.ext (by simp; omega)⟩

/-- The stored keys are the reference's. -/
theorem keys_eq (c : Dev nD) : (dats m 0 c).arrAt 8 cfg0.N = ReferenceIdeal.Read.val_main_v86 (F := Ideal) (X m c) (gk m c) := by
  refine (dats m 0 c).arrAt_eq_of_covers 8 _ (by decide +kernel) fun t hf y => ?_
  blk_simp
  rw [after0_8]
  unfold outsAt0
  dsimp only
  frame_out
  obtain ⟨r, l, rfl⟩ : ∃ (r : Fin 256) (l : Fin 128), y = ix2 r l := ⟨y 0, y 1, eq_ix2 y⟩
  obtain ⟨a, d, rfl⟩ := lane_split l
  rw [keys_at (iblk m c 2 t) (iblk m c 5 t) (fun d => gk m c (ix1 d)) (hk m c t) r a d, nk m c t r a,
    ← ReferenceIdeal.Attn.keys_at]
  blk_ext [idx_facts t]

/-- The stored values are the reference's. -/
theorem values_eq (c : Dev nD) : (dats m 0 c).arrAt 9 cfg0.N = ReferenceIdeal.Read.val_main_v87 (F := Ideal) (X m c) := by
  refine (dats m 0 c).arrAt_eq_of_covers 9 _ (by decide +kernel) fun t hf y => ?_
  blk_simp
  rw [after0_9]
  unfold outsAt0
  dsimp only
  frame_out
  obtain ⟨r, l, rfl⟩ : ∃ (r : Fin 256) (l : Fin 128), y = ix2 r l := ⟨y 0, y 1, eq_ix2 y⟩
  rw [values_at (iblk m c 3 t) r l, b3 m c t r l, ← ReferenceIdeal.Attn.values_at]
  blk_ext [idx_facts t]

theorem lam_eq (c : Dev nD) (t : Fin cfg0.N) : k0_pay12 (iblk m c 0 t) (ix2 0 0)
    = lamOf (fun i => a1 m c (ix1 i)) (fun i => a2 m c (ix1 i)) (fun i => a3 m c (ix1 i)) fun i => a4 m c (ix1 i) := by
  rw [lam_at]
  simp only [bl]
  exact congr (congr (congr (congrArg lamOf (funext (lam0 m c))) (funext (lam1 m c))) (funext (lam2 m c))) (funext (lam3 m c))

theorem gain_eq (c : Dev nD) (t : Fin cfg0.N) (j : Fin 128) : k0_pay13 (iblk m c 6 t) (ix2 0 j) = dg m c (ix1 j) := by
  rw [← vd, ← bd m c t]
  pointwise [k0_pay13]

/-- With finite gains the stored output is the reference's. -/
theorem out_eq (c : Dev nD) (fq : ∀ d, ∃ r : ℝ, gq m c (ix1 d) = r) (fk : ∀ d, ∃ r : ℝ, gk m c (ix1 d) = r) :
    (dats m 0 c).arrAt 7 cfg0.N
      = ReferenceIdeal.Read.val_main_v85 (F := Ideal) (X m c) (a1 m c) (a2 m c) (a3 m c) (a4 m c) (gq m c) (gk m c) (dg m c) := by
  refine (dats m 0 c).arrAt_eq_of_covers 7 _ (by decide +kernel) fun t hf y => ?_
  blk_simp
  rw [after0_7]
  unfold outsAt0
  dsimp only
  frame_out
  obtain ⟨r, l, rfl⟩ : ∃ (r : Fin 256) (l : Fin 128), y = ix2 r l := ⟨y 0, y 1, eq_ix2 y⟩
  have e : ∀ (a : Fin 2) (r u : Fin 256), score (normed (iblk m c 1 t) (fun d => gq m c (ix1 d)) r a) (normed (iblk m c 2 t) (fun d => gk m c (ix1 d)) u a)
      = ReferenceIdeal.Attn.scores (X m c) (gq m c) (gk m c) (sq t) (hd t) a r u := fun a r u => by
    rw [nq, nk]; rfl
  rw [out_at _ _ _ _ _ (ReferenceIdeal.Attn.scores (X m c) (gq m c) (gk m c) (sq t) (hd t))
    (fun a r u => score_real _ _ (fun d => nrm_real _ _ d (fq d)) (fun d => nrm_real _ _ d (fk d)))
    (fun r u => by
      rw [scores1_at (iblk m c 1 t) (iblk m c 4 t) (fun d => gq m c (ix1 d)) (iblk m c 2 t) (iblk m c 5 t) (fun d => gk m c (ix1 d)) (hq m c t) (hk m c t) r u, e])
    (fun r u => by
      rw [exps0_at (iblk m c 1 t) (iblk m c 4 t) (fun d => gq m c (ix1 d)) (iblk m c 2 t) (iblk m c 5 t) (fun d => gk m c (ix1 d)) (hq m c t) (hk m c t) r u]
      simp only [e]) r l]
  simp only [lam_eq, gain_eq, valuesS_at, b3]
  refine (ReferenceIdeal.Attn.out_at (X m c) (gq m c) (gk m c) (a1 m c) (a2 m c) (a3 m c) (a4 m c) (dg m c) (sq t) r (hd t) l).symm.trans ?_
  blk_ext [idx_facts t]

end Cert.KernelIdeal.Attn
-- ==== Proof.Attn.Claims.lean ====
/-
  The claims on the context attention: the frames, and the equality of the kernel's and the reference's results where
  the query and key gains are finite.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Attn.Final

@[expose] public section

set_option maxRecDepth 16384

noncomputable section

namespace Cert.Attn.Claims

open Idealize.ShloMosaic Idealize.ShloMosaic.TcCoe Idealize.SL.Sem

/-- The side condition that the precondition's program states. -/
theorem pre_facts : Cert.Pre_finite_gains.Facts := ⟨by decide⟩

theorem inf_eq : Ideal.ofBits FTy.f32 0x7F800000#32 = ⊤ := by simp [Ideal.ofBits, Ideal.ieee]

/-- An extended real whose absolute value is below the top is real. -/
theorem real_of_abs (x : EReal)
    (h : BitVec.ofBool (decide (FloatOps.absf (F := Ideal) (φ := .f32) x < Ideal.ofBits FTy.f32 0x7F800000#32)) = 1#1) :
    ∃ r : ℝ, x = r := by
  have h' : max x (-x) < ⊤ := by
    rw [inf_eq] at h
    by_contra hn
    have : decide (FloatOps.absf (F := Ideal) (φ := .f32) x < ⊤) = false := decide_eq_false hn
    rw [this] at h
    exact absurd h (by decide)
  have h1 : x ≠ ⊤ := fun e => absurd (lt_of_le_of_lt (le_max_left x (-x)) h') (by rw [e]; exact lt_irrefl _)
  have h2 : x ≠ ⊥ := fun e => absurd (lt_of_le_of_lt (le_max_right x (-x)) h') (by rw [e, EReal.neg_bot]; exact lt_irrefl _)
  exact ⟨x.toReal, (EReal.coe_toReal h1 h2).symm⟩

/-- The precondition says that both gains are real. -/
theorem gains_real (m : (ℓ : Loc Cert.KernelIdeal.nD Cert.KernelIdeal.τ Cert.KernelIdeal.sig) → Buf (Elt Ideal) ℓ)
    (h : Cert.Pre_KernelIdeal_finite_gains (hPre_finite_gains := pre_facts) m) (c : Dev Cert.KernelIdeal.nD) :
    (∀ d, ∃ r : ℝ, Cert.KernelIdeal.Attn.gq m c (ix1 d) = r) ∧ ∀ d, ∃ r : ℝ, Cert.KernelIdeal.Attn.gk m c (ix1 d) = r := by
  obtain ⟨h1, h2⟩ := h c
  refine ⟨fun d => ?_, fun d => ?_⟩
  · have e := congrFun h1 (ix1 d)
    revert e
    pointwise [Cert.Pre_finite_gains.fn]
    exact real_of_abs _
  · have e := congrFun h2 (ix1 d)
    revert e
    pointwise [Cert.Pre_finite_gains.fn]
    exact real_of_abs _

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite_gains (hKernelIdeal := Cert.KernelIdeal.Gen.facts) (hPre_finite_gains := pre_facts) :=
  fun m ρ _ => Cert.KernelIdeal.Gen.frame m ρ
theorem frame_ref : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
theorem frame_ref_pre : Cert.quiescent_ReferenceIdeal_pre_finite_gains (hReferenceIdeal := Cert.ReferenceIdeal.Gen.facts) (hPre_finite_gains := pre_facts) :=
  fun m ρ _ => frame_ref m ρ trivial
theorem preserves : Cert.preserves_Kernel_KernelIdeal := trivial

/-- The kernel's three results are the reference's. -/
theorem algebraic : Cert.algebraic_KernelIdeal_ReferenceIdeal_pre_finite_gains (hKernelIdeal := Cert.KernelIdeal.Gen.facts)
    (hReferenceIdeal := Cert.ReferenceIdeal.Gen.facts) (hPre_finite_gains := pre_facts) := by
  intro m ρ m' ρ' hpre hag
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m ρ, ?_⟩
  refine (θ_run Cert.ReferenceIdeal.defs _ _).mono (fun r h c => ?_) (Cert.ReferenceIdeal.Value.run (F := Ideal) m' ρ')
  obtain ⟨g0, g1, g2, g3, g4, g5, g6, g7⟩ := hag c
  obtain ⟨h0, h1, h2, hr⟩ := h c
  refine ⟨h0.trans ?_, h1.trans ?_, h2.trans ?_, hr⟩
  · dsimp only
    rw [Cert.ReferenceIdeal.Read.val_main_v85_eq, Cert.KernelIdeal.Attn.out_eq m c (gains_real m hpre c).1 (gains_real m hpre c).2,
      g0, g1, g2, g3, g4, g5, g6, g7]
  · exact (Cert.ReferenceIdeal.Read.val_main_v86_eq _ _).trans ((congr (congrArg _ g0) g6).trans (Cert.KernelIdeal.Attn.keys_eq m c).symm)
  · exact (Cert.ReferenceIdeal.Read.val_main_v87_eq _).trans ((congrArg _ g0).trans (Cert.KernelIdeal.Attn.values_eq m c).symm)

end Cert.Attn.Claims
-- ==== Proof.Ffn.Spec.lean ====
/-
  The feed-forward network of one token: the normalised and modulated row, one hidden unit, the gated residual.
-/
module

public import Idealize.ShloMosaic.Lib.Pointwise

@[expose] public section

set_option maxRecDepth 16384

noncomputable section

namespace Cert.Ffn

open Idealize.ShloMosaic

/-- The row over the root of its mean square, times the gain, scaled and shifted. -/
def hid (x g sc sh : Fin 2048 → EReal) (d : Fin 2048) : EReal :=
  x d * Ideal.rsqrt (Ideal.div (∑ k, x k * x k) (Ideal.ofBits FTy.f32 1157627904#32) + Ideal.ofBits FTy.f32 897988541#32)
    * g d * (1 + sc d) + sh d

/-- A hidden unit with gate column `a` and up column `b`. -/
def unit (h a b : Fin 2048 → EReal) : EReal :=
  (∑ k, h k * a k) * Ideal.logistic (∑ k, h k * a k) * ∑ k, h k * b k

/-- The residual row plus its gate times the network's output. -/
def out (x g sc sh gate : Fin 2048 → EReal) (wg wu : Fin 2048 → Fin 5632 → EReal) (wd : Fin 5632 → Fin 2048 → EReal)
    (d : Fin 2048) : EReal :=
  x d + gate d * ∑ j, unit (hid x g sc sh) (fun k => wg k j) (fun k => wu k j) * wd j d

end Cert.Ffn
-- ==== Proof.Ffn.Block.lean ====
/-
  What one grid point of the feed-forward kernel computes, read at an index of its block.
-/
module

public import proofs.«01_k».proof.Proof.Gen.Kernel2Ideal.Skeleton
public import proofs.«01_k».proof.Proof.Ffn.Spec
public import Idealize.ShloMosaic.Lib.Pointwise
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Ffn

/-- The normalised and modulated rows, computed at the first hidden tile. -/
theorem hid_at (x : Vec Ideal S512x2048 .f32) (g : Vec Ideal S1x2048 .f32) (sc sh : Vec Ideal S1x1x2048 .f32)
    (r : Fin 512) (d : Fin 2048) :
    k0_pay1 x g sc sh (ix2 r d)
      = hid (fun k => x (ix2 r k)) (fun k => g (ix2 0 k)) (fun k => sc (ix3 0 0 k)) (fun k => sh (ix3 0 0 k)) d := by
  pointwise [k0_pay1]
  rfl

/-- The accumulator starts at zero. -/
theorem zero_at (r : Fin 512) (d : Fin 2048) : k0_pay2 (F := Ideal) (ix2 r d) = 0 := by
  pointwise [k0_pay2]

/-- What a hidden tile contributes to the down product. -/
def part (h : Fin 2048 → EReal) (wg wu : Vec Ideal S2048x512 .bf16) (wd : Vec Ideal S512x2048 .bf16) (d : Fin 2048) : EReal :=
  ∑ j : Fin 512, unit h (fun k => wg (ix2 k j)) (fun k => wu (ix2 k j)) * wd (ix2 j d)

/-- The accumulator after a hidden tile. -/
theorem acc_at (h : Vec Ideal S512x2048 .bf16) (wg wu : Vec Ideal S2048x512 .bf16) (acc : Vec Ideal S512x2048 .f32)
    (wd : Vec Ideal S512x2048 .bf16) (r : Fin 512) (d : Fin 2048) :
    k0_pay3 h wg wu acc wd (ix2 r d) = acc (ix2 r d) + part (fun k => h (ix2 r k)) wg wu wd d := by
  pointwise [k0_pay3]
  rfl

/-- The stored block. -/
theorem res_at (x : Vec Ideal S512x2048 .f32) (g : Vec Ideal S1x1x2048 .f32) (acc : Vec Ideal S512x2048 .f32)
    (r : Fin 512) (d : Fin 2048) :
    k0_pay4 x g acc (ix2 r d) = x (ix2 r d) + g (ix3 0 0 d) * acc (ix2 r d) := by
  pointwise [k0_pay4]

end Cert.Kernel2Ideal.Ffn
-- ==== Proof.Ffn.Acc.lean ====
/-
  What the two scratch buffers and the output block of the feed-forward kernel hold after each grid point, as the
  point's payloads.
-/
module

public import proofs.«01_k».proof.Proof.Gen.Kernel2Ideal.Frame
public import proofs.«01_k».proof.Proof.Ffn.Block
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Ffn
open Idealize.ShloMosaic.Pipeline (Dat)

variable (m : (ℓ : Loc nD τ sig) → Buf (Elt Ideal) ℓ)

/-- What the point before `t` left. -/
abbrev prev (c : Dev nD) (t : Fin cfg0.N) := outsAt0 m c (t.val - 1) (Nat.lt_of_le_of_lt (Nat.sub_le _ _) t.isLt)

/-- At the first hidden tile the row scratch holds the modulated rows. -/
theorem hidA (c : Dev nD) (t : Fin cfg0.N) (h0 : t.val % 11 = 0) (y : S512x2048.Idx) :
    (outsAt0 m c t.val t.isLt).2.1 y = k0_pay1 (iblk m c 0 t) (iblk m c 1 t) (iblk m c 2 t) (iblk m c 3 t) y := by
  rw [outsAt0_A m c t h0 (by omega)]
  dsimp only
  frame_out

/-- At the other tiles the row scratch is kept. -/
theorem hidS (c : Dev nD) (t : Fin cfg0.N) (h0 : ¬t.val % 11 = 0) :
    (outsAt0 m c t.val t.isLt).2.1 = (prev m c t).2.1 := by
  by_cases h1 : t.val % 11 = 10
  · rw [outsAt0_C m c t h0 h1]; rfl
  · rw [outsAt0_B m c t h0 h1]; rfl

/-- At the first hidden tile the accumulator is zeroed and takes the tile's part. -/
theorem accA (c : Dev nD) (t : Fin cfg0.N) (h0 : t.val % 11 = 0) (y : S512x2048.Idx) :
    (outsAt0 m c t.val t.isLt).2.2 y = k0_pay3 (k0_pay1 (iblk m c 0 t) (iblk m c 1 t) (iblk m c 2 t) (iblk m c 3 t))
      (iblk m c 5 t) (iblk m c 6 t) (k0_pay2 (F := Ideal)) (iblk m c 7 t) y := by
  rw [outsAt0_A m c t h0 (by omega)]
  dsimp only
  frame_out

/-- At the other tiles it takes the tile's part over what it held. -/
theorem accS (c : Dev nD) (t : Fin cfg0.N) (h0 : ¬t.val % 11 = 0) (y : S512x2048.Idx) :
    (outsAt0 m c t.val t.isLt).2.2 y = k0_pay3 (prev m c t).2.1 (iblk m c 5 t) (iblk m c 6 t) (prev m c t).2.2 (iblk m c 7 t) y := by
  by_cases h1 : t.val % 11 = 10
  · rw [outsAt0_C m c t h0 h1]
    dsimp only
    frame_out
    rw [read_unread_whole, read_unread_whole]
  · rw [outsAt0_B m c t h0 h1]
    dsimp only
    frame_out
    rw [read_unread_whole, read_unread_whole]

/-- At the last tile the output block is the residual with the accumulator. -/
theorem outC (c : Dev nD) (t : Fin cfg0.N) (h1 : t.val % 11 = 10) (y : S512x2048.Idx) :
    (outsAt0 m c t.val t.isLt).1 y = k0_pay4 (iblk m c 0 t) (iblk m c 4 t)
      (k0_pay3 (prev m c t).2.1 (iblk m c 5 t) (iblk m c 6 t) (prev m c t).2.2 (iblk m c 7 t)) y := by
  rw [outsAt0_C m c t (by omega) h1]
  dsimp only
  frame_out
  rw [read_unread_whole, read_unread_whole]

end Cert.Kernel2Ideal.Ffn
-- ==== Proof.Ffn.Ref.lean ====
/-
  The reference's feed-forward network read at an index: the prompt rows and the sample rows.
-/
module

public import proofs.«01_k».proof.Proof.Gen.Reference2Ideal.Read
public import proofs.«01_k».proof.Proof.Ffn.Spec
public import Idealize.ShloMosaic.Lib.Pointwise
public import Idealize.ShloMosaic.Lib.Pipeline.ValueKit

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem Cert.Ffn

variable (X : FVec Ideal S12288x2048 .f32) (g : FVec Ideal S2048 .f32) (sh sc gt : FVec Ideal S8x1x2048 .f32)
variable (wg wu : FVec Ideal S2048x5632 .f32) (wd : FVec Ideal S5632x2048 .f32)

/-- A row of the residual. -/
abbrev row (i : Fin 12288) (k : Fin 2048) : EReal := X (ix2 i k)
/-- A row of a modulation. -/
abbrev md (s : FVec Ideal S8x1x2048 .f32) (n : Fin 8) (k : Fin 2048) : EReal := s (ix3 n 0 k)

/-- The specification at row `i` with the modulation `n`. -/
abbrev spec (i : Fin 12288) (n : Fin 8) (d : Fin 2048) : EReal :=
  out (row X i) (fun k => g (ix1 k)) (md sc n) (md sh n) (md gt n) (fun k j => wg (ix2 k j)) (fun k j => wu (ix2 k j))
    (fun j d => wd (ix2 j d)) d

/-- The modulated rows of the prompt. -/
theorem v23_at (b : Fin 32) (r : Fin 256) (d : Fin 2048) :
    val_main_v23 (F := Ideal) X g sh sc (ix3 b r d)
      = hid (row X ⟨b.val * 256 + r.val, by omega⟩) (fun k => g (ix1 k)) (md sc 0) (md sh 0) d := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v3, val_main_v2, val_main_v1, val_main_v0, val_main_cst, val_main_cst_0, val_main_cst_1, val_main_cst_2]
  rfl

/-- The modulated rows of the samples. -/
theorem v55_at (b : Fin 2) (r : Fin 2048) (d : Fin 2048) :
    val_main_v55 (F := Ideal) X g sh sc (ix3 b r d)
      = hid (row X ⟨8192 + (b.val * 2048 + r.val), by omega⟩) (fun k => g (ix1 k)) (md sc ⟨1 + b.val, by omega⟩) (md sh ⟨1 + b.val, by omega⟩) d := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v35, val_main_v34, val_main_v33, val_main_v32, val_main_cst_3, val_main_cst_4, val_main_cst_5, val_main_cst_6]
  rfl

/-- A hidden unit of a prompt row. -/
theorem v27_at (b : Fin 32) (r : Fin 256) (j : Fin 5632) :
    val_main_v27 (F := Ideal) X g sh sc wg wu (ix3 b r j)
      = unit (hid (row X ⟨b.val * 256 + r.val, by omega⟩) (fun k => g (ix1 k)) (md sc 0) (md sh 0))
        (fun k => wg (ix2 k j)) fun k => wu (ix2 k j) := by
  pointwise [val_main_v27, val_main_v26, val_main_v25, val_main_v24, val_main_call0_v0, val_main_call0_v1, val_main_call0_cst, val_main_call0_v2, val_main_call0_v3, val_main_call0_cst_0, val_main_call0_v4, val_main_call0_v5]
  simp only [v23_at]
  rfl

/-- A hidden unit of a sample row. -/
theorem v59_at (b : Fin 2) (r : Fin 2048) (j : Fin 5632) :
    val_main_v59 (F := Ideal) X g sh sc wg wu (ix3 b r j)
      = unit (hid (row X ⟨8192 + (b.val * 2048 + r.val), by omega⟩) (fun k => g (ix1 k)) (md sc ⟨1 + b.val, by omega⟩) (md sh ⟨1 + b.val, by omega⟩))
        (fun k => wg (ix2 k j)) fun k => wu (ix2 k j) := by
  pointwise [val_main_v59, val_main_v58, val_main_v57, val_main_v56, val_main_call1_v0, val_main_call1_v1, val_main_call1_cst, val_main_call1_v2, val_main_call1_v3, val_main_call1_cst_0, val_main_call1_v4, val_main_call1_v5]
  simp only [v55_at]
  rfl

/-- A prompt row of the result. -/
theorem v31_at (b : Fin 32) (r : Fin 256) (d : Fin 2048) :
    val_main_v31 (F := Ideal) X g sh sc gt wg wu wd (ix3 b r d)
      = spec X g sh sc gt wg wu wd ⟨b.val * 256 + r.val, by omega⟩ 0 d := by
  pointwise [val_main_v31, val_main_v30, val_main_v29, val_main_v28, val_main_v4, val_main_v1, val_main_v0]
  simp only [v27_at]
  rfl

/-- A sample row of the result. -/
theorem v63_at (b : Fin 2) (r : Fin 2048) (d : Fin 2048) :
    val_main_v63 (F := Ideal) X g sh sc gt wg wu wd (ix3 b r d)
      = spec X g sh sc gt wg wu wd ⟨8192 + (b.val * 2048 + r.val), by omega⟩ ⟨1 + b.val, by omega⟩ d := by
  pointwise [val_main_v63, val_main_v62, val_main_v61, val_main_v60, val_main_v36, val_main_v33, val_main_v32]
  simp only [v59_at]
  rfl

/-- The result at a prompt row. -/
theorem prompt_at (b : Fin 32) (r : Fin 256) (d : Fin 2048) :
    val_main_v66 (F := Ideal) X g sh sc gt wg wu wd (ix2 ⟨b.val * 256 + r.val, by omega⟩ d)
      = spec X g sh sc gt wg wu wd ⟨b.val * 256 + r.val, by omega⟩ 0 d := by
  rw [← v31_at]
  pointwise [val_main_v66, val_main_v64]
  exact dif_pos (by omega)

/-- The last rows of the result are the samples'. -/
theorem tail_at (i : Fin 12288) (h : ¬i.val < 8192) (d : Fin 2048) :
    val_main_v66 (F := Ideal) X g sh sc gt wg wu wd (ix2 i d)
      = val_main_v65 (F := Ideal) X g sh sc gt wg wu wd (ix2 ⟨i.val - 8192, by omega⟩ d) := by
  pointwise [val_main_v66]
  exact dif_neg h

/-- The samples' rows, flattened. -/
theorem v65_at (b : Fin 2) (r : Fin 2048) (d : Fin 2048) :
    val_main_v65 (F := Ideal) X g sh sc gt wg wu wd (ix2 ⟨b.val * 2048 + r.val, by omega⟩ d)
      = val_main_v63 (F := Ideal) X g sh sc gt wg wu wd (ix3 b r d) := by
  pointwise [val_main_v65]

/-- The result at a sample row. -/
theorem sample_at (b : Fin 2) (r : Fin 2048) (d : Fin 2048) :
    val_main_v66 (F := Ideal) X g sh sc gt wg wu wd (ix2 ⟨8192 + (b.val * 2048 + r.val), by omega⟩ d)
      = spec X g sh sc gt wg wu wd ⟨8192 + (b.val * 2048 + r.val), by omega⟩ ⟨1 + b.val, by omega⟩ d := by
  rw [← v63_at, ← v65_at, tail_at X g sh sc gt wg wu wd _ (Nat.not_lt.mpr (Nat.le_add_right _ _))]
  exact congrArg (fun n => val_main_v65 (F := Ideal) X g sh sc gt wg wu wd (ix2 n d)) (Fin.ext (Nat.add_sub_cancel_left _ _))

/-- The result at any row: the modulation is the row's group's. -/
theorem ref_at (i : Fin 12288) (n : Fin 8) (hn : n.val = (i.val / 512 - 12) / 4) (d : Fin 2048) :
    val_main_v66 (F := Ideal) X g sh sc gt wg wu wd (ix2 i d) = spec X g sh sc gt wg wu wd i n d := by
  by_cases h : i.val < 8192
  · have e : i = ⟨(⟨i.val / 256, by omega⟩ : Fin 32).val * 256 + (⟨i.val % 256, by omega⟩ : Fin 256).val, by dsimp only; omega⟩ :=
      Fin.ext (by dsimp only; omega)
    have en : n = 0 := Fin.ext (by rw [hn]; show _ = 0; omega)
    rw [e, en]
    exact prompt_at X g sh sc gt wg wu wd _ _ d
  · have e : i = ⟨8192 + ((⟨(i.val - 8192) / 2048, by omega⟩ : Fin 2).val * 2048 + (⟨(i.val - 8192) % 2048, by omega⟩ : Fin 2048).val), by dsimp only; omega⟩ :=
      Fin.ext (by dsimp only; omega)
    have en : n = ⟨1 + (⟨(i.val - 8192) / 2048, by omega⟩ : Fin 2).val, by dsimp only; omega⟩ := Fin.ext (by dsimp only; omega)
    rw [e, en]
    exact sample_at X g sh sc gt wg wu wd _ _ d

end Cert.Reference2Ideal.Ffn
-- ==== Proof.Ffn.Final.lean ====
/-
  The array that the feed-forward kernel's grid writes is the reference's result.
-/
module

public import proofs.«01_k».proof.Proof.Ffn.Acc
public import proofs.«01_k».proof.Proof.Ffn.Ref
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.Ffn
open Idealize.ShloMosaic.Pipeline (Dat)

/-- The blocks of grid point `t`: row tile `t / 11`, hidden tile `t % 11`, modulation by the row tile's group. -/
theorem idx_facts : ∀ t : Fin cfg0.N,
    win0_0.index t = ![t.val / 11, 0]
    ∧ win0_1.index t = ![0, 0]
    ∧ win0_2.index t = ![(t.val / 11 - 12) / 4, 0, 0]
    ∧ win0_3.index t = ![(t.val / 11 - 12) / 4, 0, 0]
    ∧ win0_4.index t = ![(t.val / 11 - 12) / 4, 0, 0]
    ∧ win0_5.index t = ![0, t.val % 11]
    ∧ win0_6.index t = ![0, t.val % 11]
    ∧ win0_7.index t = ![t.val % 11, 0]
    ∧ win0_8.index t = ![t.val / 11, 0] := (by decide +kernel : ∀ t : Fin grid0.N, _)

variable (m : (ℓ : Loc nD τ sig) → Buf (Elt Ideal) ℓ)

abbrev X (c : Dev nD) : FVec Ideal S12288x2048 .f32 := m ((c : Thread nD τ).loc main_arg0)
abbrev gn (c : Dev nD) : FVec Ideal S2048 .f32 := m ((c : Thread nD τ).loc main_arg1)
abbrev sh (c : Dev nD) : FVec Ideal S8x1x2048 .f32 := m ((c : Thread nD τ).loc main_arg2)
abbrev sc (c : Dev nD) : FVec Ideal S8x1x2048 .f32 := m ((c : Thread nD τ).loc main_arg3)
abbrev gt (c : Dev nD) : FVec Ideal S8x1x2048 .f32 := m ((c : Thread nD τ).loc main_arg4)
abbrev wg (c : Dev nD) : FVec Ideal S2048x5632 .f32 := m ((c : Thread nD τ).loc main_arg5)
abbrev wu (c : Dev nD) : FVec Ideal S2048x5632 .f32 := m ((c : Thread nD τ).loc main_arg6)
abbrev wd (c : Dev nD) : FVec Ideal S5632x2048 .f32 := m ((c : Thread nD τ).loc main_arg7)

theorem lt_N (t : Fin cfg0.N) : t.val < 264 := lt_of_lt_of_eq t.isLt N_0

/-- Row `r` of the point's row tile. -/
abbrev rw_ (t : Fin cfg0.N) (r : Fin 512) : Fin 12288 := ⟨t.val / 11 * 512 + r.val, by have := lt_N t; omega⟩
/-- The point's group. -/
abbrev grp (t : Fin cfg0.N) : Fin 8 := ⟨(t.val / 11 - 12) / 4, by have := lt_N t; omega⟩
/-- Unit `j` of the point's hidden tile. -/
abbrev hu (t : Fin cfg0.N) (j : Fin 512) : Fin 5632 := ⟨t.val % 11 * 512 + j.val, by omega⟩

/-! ## The operands that the host prepares -/

theorem v0 (c : Dev nD) (d : Fin 2048) : (V m c main_v0 : Vec Ideal S1x2048 .f32) (ix2 0 d) = gn m c (ix1 d) := by
  entry_read
  pointwise
theorem v1 (c : Dev nD) (k : Fin 2048) (j : Fin 5632) : (V m c main_v1 : Vec Ideal S2048x5632 .bf16) (ix2 k j) = wg m c (ix2 k j) := by
  entry_read
  pointwise
theorem v2 (c : Dev nD) (k : Fin 2048) (j : Fin 5632) : (V m c main_v2 : Vec Ideal S2048x5632 .bf16) (ix2 k j) = wu m c (ix2 k j) := by
  entry_read
  pointwise
theorem v3 (c : Dev nD) (j : Fin 5632) (d : Fin 2048) : (V m c main_v3 : Vec Ideal S5632x2048 .bf16) (ix2 j d) = wd m c (ix2 j d) := by
  entry_read
  pointwise

/-! ## The point's blocks -/

theorem b0 (c : Dev nD) (t : Fin cfg0.N) (r : Fin 512) (k : Fin 2048) :
    (iblk m c 0 t : Vec Ideal S512x2048 .f32) (ix2 r k) = X m c (ix2 (rw_ t r) k) := by
  blk_ext [iblk, V, idx_facts t]
theorem b1 (c : Dev nD) (t : Fin cfg0.N) (k : Fin 2048) :
    (iblk m c 1 t : Vec Ideal S1x2048 .f32) (ix2 0 k) = gn m c (ix1 k) := by
  rw [← v0]
  blk_ext [iblk, idx_facts t]
theorem b2 (c : Dev nD) (t : Fin cfg0.N) (k : Fin 2048) :
    (iblk m c 2 t : Vec Ideal S1x1x2048 .f32) (ix3 0 0 k) = sc m c (ix3 (grp t) 0 k) := by
  blk_ext [iblk, V, idx_facts t]
theorem b3 (c : Dev nD) (t : Fin cfg0.N) (k : Fin 2048) :
    (iblk m c 3 t : Vec Ideal S1x1x2048 .f32) (ix3 0 0 k) = sh m c (ix3 (grp t) 0 k) := by
  blk_ext [iblk, V, idx_facts t]
theorem b4 (c : Dev nD) (t : Fin cfg0.N) (k : Fin 2048) :
    (iblk m c 4 t : Vec Ideal S1x1x2048 .f32) (ix3 0 0 k) = gt m c (ix3 (grp t) 0 k) := by
  blk_ext [iblk, V, idx_facts t]
theorem b5 (c : Dev nD) (t : Fin cfg0.N) (k : Fin 2048) (j : Fin 512) :
    (iblk m c 5 t : Vec Ideal S2048x512 .bf16) (ix2 k j) = wg m c (ix2 k (hu t j)) := by
  rw [← v1]
  blk_ext [iblk, idx_facts t]
theorem b6 (c : Dev nD) (t : Fin cfg0.N) (k : Fin 2048) (j : Fin 512) :
    (iblk m c 6 t : Vec Ideal S2048x512 .bf16) (ix2 k j) = wu m c (ix2 k (hu t j)) := by
  rw [← v2]
  blk_ext [iblk, idx_facts t]
theorem b7 (c : Dev nD) (t : Fin cfg0.N) (j : Fin 512) (d : Fin 2048) :
    (iblk m c 7 t : Vec Ideal S512x2048 .bf16) (ix2 j d) = wd m c (ix2 (hu t j) d) := by
  rw [← v3]
  blk_ext [iblk, idx_facts t]

/-! ## The scratch -/

/-- The modulated rows of the point's tile, from the arguments. -/
def hrow (c : Dev nD) (i : Fin 12288) (n : Fin 8) (d : Fin 2048) : EReal :=
  hid (fun k => X m c (ix2 i k)) (fun k => gn m c (ix1 k)) (fun k => sc m c (ix3 n 0 k)) (fun k => sh m c (ix3 n 0 k)) d

theorem pay1_eq (c : Dev nD) (t : Fin cfg0.N) (r : Fin 512) (d : Fin 2048) :
    k0_pay1 (iblk m c 0 t) (iblk m c 1 t) (iblk m c 2 t) (iblk m c 3 t) (ix2 r d) = hrow m c (rw_ t r) (grp t) d := by
  rw [hid_at]
  simp only [b0, b1, b2, b3]
  rfl

/-- After every point the row scratch holds the modulated rows of its row tile. -/
theorem hid_inv (c : Dev nD) (r : Fin 512) (d : Fin 2048) : ∀ (n : ℕ) (t : Fin cfg0.N), t.val = n →
    ((outsAt0 m c t.val t.isLt).2.1 : Vec Ideal S512x2048 .bf16) (ix2 r d) = hrow m c (rw_ t r) (grp t) d := by
  intro n
  induction n with
  | zero => exact fun t e => (hidA m c t (by omega) _).trans (pay1_eq m c t r d)
  | succ n ih =>
    intro t e
    by_cases h0 : t.val % 11 = 0
    · exact (hidA m c t h0 _).trans (pay1_eq m c t r d)
    · rw [hidS m c t h0]
      have hl := t.isLt
      have := ih ⟨t.val - 1, by omega⟩ (by dsimp only; omega)
      dsimp only at this
      have e1 : rw_ ⟨t.val - 1, by omega⟩ r = rw_ t r := Fin.ext (by dsimp only; omega)
      have e2 : grp ⟨t.val - 1, by omega⟩ = grp t := Fin.ext (by dsimp only; omega)
      rw [← e1, ← e2]
      exact this

/-- What the point's hidden tile contributes. -/
def term (c : Dev nD) (t : Fin cfg0.N) (y : S512x2048.Idx) : EReal :=
  part (hrow m c (rw_ t (y 0)) (grp t)) (iblk m c 5 t) (iblk m c 6 t) (iblk m c 7 t) (y 1)

theorem term_at (c : Dev nD) (t : Fin cfg0.N) (r : Fin 512) (d : Fin 2048) :
    term m c t (ix2 r d) = ∑ j : Fin 512, unit (hrow m c (rw_ t r) (grp t)) (fun k => wg m c (ix2 k (hu t j)))
      (fun k => wu m c (ix2 k (hu t j))) * wd m c (ix2 (hu t j) d) := by
  show part (hrow m c (rw_ t r) (grp t)) (iblk m c 5 t) (iblk m c 6 t) (iblk m c 7 t) d = _
  unfold part
  simp only [b5, b6, b7]

theorem acc_reset (c : Dev nD) (t : Fin cfg0.N) (h0 : t.val % 11 = 0) (y : S512x2048.Idx) :
    ((outsAt0 m c t.val t.isLt).2.2 y : EReal) = 0 + term m c t y := by
  obtain ⟨r, d, rfl⟩ : ∃ (r : Fin 512) (d : Fin 2048), y = ix2 r d := ⟨y 0, y 1, eq_ix2 y⟩
  rw [accA m c t h0, acc_at, zero_at]
  simp only [pay1_eq]
  rfl

theorem acc_step (c : Dev nD) (t : Fin cfg0.N) (h0 : ¬t.val % 11 = 0) (y : S512x2048.Idx) :
    ((outsAt0 m c t.val t.isLt).2.2 y : EReal)
      = (outsAt0 m c (t.val - 1) (Nat.lt_of_le_of_lt (Nat.sub_le _ _) t.isLt)).2.2 y + term m c t y := by
  obtain ⟨r, d, rfl⟩ : ∃ (r : Fin 512) (d : Fin 2048), y = ix2 r d := ⟨y 0, y 1, eq_ix2 y⟩
  rw [accS m c t h0, acc_at, ← hidS m c t h0]
  simp only [hid_inv m c r _ _ t rfl]
  rfl

/-- The accumulator at the last tile: the whole down product of the row. -/
theorem acc_last (c : Dev nD) (t : Fin cfg0.N) (h : t.val % 11 = 10) (r : Fin 512) (d : Fin 2048) :
    ((outsAt0 m c t.val t.isLt).2.2 : Vec Ideal S512x2048 .f32) (ix2 r d)
      = ∑ j : Fin 5632, unit (hrow m c (rw_ t r) (grp t)) (fun k => wg m c (ix2 k j)) (fun k => wu m c (ix2 k j)) * wd m c (ix2 j d) := by
  refine (Pipeline.eq_sum_fin_of_reset_step_apply_of_flush (M := EReal) (fun n h => (outsAt0 m c n h).2.2) 11 (fun _ => 0) (term m c)
    (acc_reset m c) (acc_step m c) t h (ix2 r d)).trans ?_
  rw [zero_add]
  simp only [term_at]
  refine Fin.sum_mul_add_congr fun s k hl => ?_
  have e1 : rw_ ⟨11 * (t.val / 11) + s.val, Pipeline.run_point_lt_of_flush t h s⟩ r = rw_ t r := Fin.ext (by dsimp only; omega)
  have e2 : grp ⟨11 * (t.val / 11) + s.val, Pipeline.run_point_lt_of_flush t h s⟩ = grp t := Fin.ext (by dsimp only; omega)
  have e3 : hu ⟨11 * (t.val / 11) + s.val, Pipeline.run_point_lt_of_flush t h s⟩ k = ⟨s.val * 512 + k.val, hl⟩ := Fin.ext (by dsimp only; omega)
  rw [e1, e2, e3]

/-- The written array is the reference's result. -/
theorem out_eq (c : Dev nD) : (dats m 0 c).arrAt 8 cfg0.N
    = Reference2Ideal.Read.val_main_v66 (F := Ideal) (X m c) (gn m c) (sh m c) (sc m c) (gt m c) (wg m c) (wu m c) (wd m c) := by
  refine (dats m 0 c).arrAt_eq_of_covers 8 _ (by decide +kernel) fun t hf y => ?_
  blk_simp
  have h : t.val % 11 = 10 := (flush0_8 t).mp hf
  rw [after0_8]
  obtain ⟨r, d, rfl⟩ : ∃ (r : Fin 512) (d : Fin 2048), y = ix2 r d := ⟨y 0, y 1, eq_ix2 y⟩
  have e : ∀ y, k0_pay3 (prev m c t).2.1 (iblk m c 5 t) (iblk m c 6 t) (prev m c t).2.2 (iblk m c 7 t) y
      = (outsAt0 m c t.val t.isLt).2.2 y := fun y => (accS m c t (by omega) y).symm
  rw [outC m c t h, res_at, e, acc_last m c t h r d, b0, b4]
  refine (Reference2Ideal.Ffn.ref_at (X m c) (gn m c) (sh m c) (sc m c) (gt m c) (wg m c) (wu m c) (wd m c) (rw_ t r) (grp t)
    (by dsimp only; omega) d).symm.trans ?_
  blk_ext [idx_facts t]

end Cert.Kernel2Ideal.Ffn
-- ==== Proof.Ffn.Claims.lean ====
/-
  The claims on the feed-forward network: the frames, and the equality of the kernel's and the reference's result.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Ffn.Final

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v4) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun r h c =>
    ⟨(h c).1 8,
      ((h c).1 0).trans (((dats m 0 c).arrAt_in 0 rfl _).trans <| (A_eq m c 0).trans (V_main_arg0 m c)),
      ((h c).2 main_arg1 (Pipeline.mem_restRefs_of main_arg1 (by decide) (by decide))).trans (V_main_arg1 m c),
      ((h c).1 3).trans (((dats m 0 c).arrAt_in 3 rfl _).trans <| (A_eq m c 3).trans (V_main_arg2 m c)),
      ((h c).1 2).trans (((dats m 0 c).arrAt_in 2 rfl _).trans <| (A_eq m c 2).trans (V_main_arg3 m c)),
      ((h c).1 4).trans (((dats m 0 c).arrAt_in 4 rfl _).trans <| (A_eq m c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel2Ideal.Ffn

namespace Cert.Ffn.Claims

open Idealize.ShloMosaic Idealize.ShloMosaic.TcCoe Idealize.SL.Sem

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) := fun m ρ _ => Cert.Kernel2Ideal.Gen.frame m ρ
theorem frame_ref : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem preserves : Cert.preserves_Kernel2_Kernel2Ideal := trivial

/-- The kernel's result is the reference's. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => (Cert.Kernel2Ideal.Gen.dats m 0 c).arrAt 8 Cert.Kernel2Ideal.cfg0.N, Cert.Kernel2Ideal.Ffn.ends m ρ, ?_⟩
  refine (θ_run Cert.Reference2Ideal.defs _ _).mono (fun r h c => ?_) (Cert.Reference2Ideal.Value.run (F := Ideal) m' ρ')
  obtain ⟨g0, g1, g2, g3, g4, g5, g6, g7⟩ := hag c
  obtain ⟨h0, hr⟩ := h c
  refine ⟨h0.trans ?_, hr⟩
  dsimp only
  rw [Cert.Reference2Ideal.Read.val_main_v66_eq, Cert.Kernel2Ideal.Ffn.out_eq m c, g0, g1, g2, g3, g4, g5, g6, g7]

end Cert.Ffn.Claims
-- ==== Proof.Proj.InOdd.Ref.lean ====
/-
  The reference's odd input projection read at an index: the prompt rows and the sample rows.
-/
module

public import proofs.«01_k».proof.Proof.Gen.Reference3Ideal.Read
public import proofs.«01_k».proof.Proof.Ffn.Spec
public import Idealize.ShloMosaic.Lib.Pointwise
public import Idealize.ShloMosaic.Lib.Pipeline.ValueKit

@[expose] public section

set_option maxRecDepth 16384

noncomputable section

namespace Cert.Reference3Ideal.Proj

open Cert.Reference3Ideal Cert.Reference3Ideal.Gen Cert.Reference3Ideal.Read Idealize.ShloMosaic Idealize.ShloMosaic.TcCoe Idealize.SL.Sem Cert.Ffn

variable (X : FVec Ideal S12288x2048 .f32) (g : FVec Ideal S2048 .f32) (sh sc : FVec Ideal S8x1x2048 .f32)
variable (w : FVec Ideal S2048x10368 .f32)

/-- The modulated row `i` with the modulation `n`. -/
abbrev hrow (i : Fin 12288) (n : Fin 8) (d : Fin 2048) : EReal :=
  hid (fun k => X (ix2 i k)) (fun k => g (ix1 k)) (fun k => sc (ix3 n 0 k)) (fun k => sh (ix3 n 0 k)) d

/-- The modulated rows of the prompt. -/
theorem v22_at (b : Fin 32) (r : Fin 256) (d : Fin 2048) :
    val_main_v22 (F := Ideal) X g sh sc (ix3 b r d) = hrow X g sh sc ⟨b.val * 256 + r.val, by omega⟩ 0 d := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The modulated rows of the samples. -/
theorem v46_at (b : Fin 2) (r : Fin 2048) (d : Fin 2048) :
    val_main_v46 (F := Ideal) X g sh sc (ix3 b r d)
      = hrow X g sh sc ⟨8192 + (b.val * 2048 + r.val), by omega⟩ ⟨1 + b.val, by omega⟩ d := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_cst_4, val_main_cst_5, val_main_cst_6]
  rfl

/-- A prompt row of the projection. -/
theorem v23_at (b : Fin 32) (r : Fin 256) (j : Fin 10368) :
    val_main_v23 (F := Ideal) X g sh sc w (ix3 b r j)
      = ∑ k, hrow X g sh sc ⟨b.val * 256 + r.val, by omega⟩ 0 k * w (ix2 k j) := by
  pointwise [val_main_v23]
  simp only [v22_at]

/-- A sample row of the projection. -/
theorem v47_at (b : Fin 2) (r : Fin 2048) (j : Fin 10368) :
    val_main_v47 (F := Ideal) X g sh sc w (ix3 b r j)
      = ∑ k, hrow X g sh sc ⟨8192 + (b.val * 2048 + r.val), by omega⟩ ⟨1 + b.val, by omega⟩ k * w (ix2 k j) := by
  pointwise [val_main_v47]
  simp only [v46_at]

/-- The projection at a prompt row. -/
theorem prompt_at (b : Fin 32) (r : Fin 256) (j : Fin 10368) :
    val_main_v50 (F := Ideal) X g sh sc w (ix2 ⟨b.val * 256 + r.val, by omega⟩ j)
      = ∑ k, hrow X g sh sc ⟨b.val * 256 + r.val, by omega⟩ 0 k * w (ix2 k j) := by
  rw [← v23_at]
  pointwise [val_main_v50, val_main_v48]
  exact dif_pos (by omega)

/-- The last rows of the projection are the samples'. -/
theorem tail_at (i : Fin 12288) (h : ¬i.val < 8192) (j : Fin 10368) :
    val_main_v50 (F := Ideal) X g sh sc w (ix2 i j)
      = val_main_v49 (F := Ideal) X g sh sc w (ix2 ⟨i.val - 8192, by omega⟩ j) := by
  pointwise [val_main_v50]
  exact dif_neg h

/-- The samples' rows, flattened. -/
theorem v49_at (b : Fin 2) (r : Fin 2048) (j : Fin 10368) :
    val_main_v49 (F := Ideal) X g sh sc w (ix2 ⟨b.val * 2048 + r.val, by omega⟩ j)
      = val_main_v47 (F := Ideal) X g sh sc w (ix3 b r j) := by
  pointwise [val_main_v49]

/-- The projection at a sample row. -/
theorem sample_at (b : Fin 2) (r : Fin 2048) (j : Fin 10368) :
    val_main_v50 (F := Ideal) X g sh sc w (ix2 ⟨8192 + (b.val * 2048 + r.val), by omega⟩ j)
      = ∑ k, hrow X g sh sc ⟨8192 + (b.val * 2048 + r.val), by omega⟩ ⟨1 + b.val, by omega⟩ k * w (ix2 k j) := by
  rw [← v47_at, ← v49_at, tail_at X g sh sc w _ (Nat.not_lt.mpr (Nat.le_add_right _ _))]
  exact congrArg (fun n => val_main_v49 (F := Ideal) X g sh sc w (ix2 n j)) (Fin.ext (Nat.add_sub_cancel_left _ _))

/-- The projection at any row: the modulation is the row's group's. -/
theorem proj_at (i : Fin 12288) (n : Fin 8) (hn : n.val = (i.val / 512 - 12) / 4) (j : Fin 10368) :
    val_main_v50 (F := Ideal) X g sh sc w (ix2 i j) = ∑ k, hrow X g sh sc i n k * w (ix2 k j) := by
  by_cases h : i.val < 8192
  · have e : i = ⟨(⟨i.val / 256, by omega⟩ : Fin 32).val * 256 + (⟨i.val % 256, by omega⟩ : Fin 256).val, by dsimp only; omega⟩ :=
      Fin.ext (by dsimp only; omega)
    have en : n = 0 := Fin.ext (by rw [hn]; show _ = 0; omega)
    rw [e, en]
    exact prompt_at X g sh sc w _ _ j
  · have e : i = ⟨8192 + ((⟨(i.val - 8192) / 2048, by omega⟩ : Fin 2).val * 2048 + (⟨(i.val - 8192) % 2048, by omega⟩ : Fin 2048).val), by dsimp only; omega⟩ :=
      Fin.ext (by dsimp only; omega)
    have en : n = ⟨1 + (⟨(i.val - 8192) / 2048, by omega⟩ : Fin 2).val, by dsimp only; omega⟩ := Fin.ext (by dsimp only; omega)
    rw [e, en]
    exact sample_at X g sh sc w _ _ j

/-- A column of the weight, zero after the last. -/
def colw (k : Fin 2048) (q : Fin 10752) : EReal := if h : q.val < 10368 then w (ix2 k ⟨q.val, h⟩) else 0

/-- The projected row with its zeros. -/
theorem wide_at (i : Fin 12288) (n : Fin 8) (hn : n.val = (i.val / 512 - 12) / 4) (q : Fin 10752) :
    val_main_v52 (F := Ideal) X g sh sc w (ix2 i q) = ∑ k, hrow X g sh sc i n k * colw w k q := by
  by_cases h : q.val < 10368
  · have e : val_main_v52 (F := Ideal) X g sh sc w (ix2 i q) = val_main_v50 (F := Ideal) X g sh sc w (ix2 i ⟨q.val, h⟩) := by
      pointwise [val_main_v52]
      exact dif_pos h
    rw [e, proj_at X g sh sc w i n hn]
    simp only [colw, dif_pos h]
  · have e : val_main_v52 (F := Ideal) X g sh sc w (ix2 i q) = (0 : EReal) := by
      pointwise [val_main_v52, val_main_v51, val_main_cst_7]
      exact dif_neg h
    rw [e]
    simp only [colw, dif_neg h, mul_zero, Finset.sum_const_zero]

/-- The result: column `s * 128 + l` of the wide row. -/
theorem ref_at (s : Fin 84) (i : Fin 12288) (l : Fin 128) (n : Fin 8) (hn : n.val = (i.val / 512 - 12) / 4) :
    val_main_v54 (F := Ideal) X g sh sc w (ix3 s i l)
      = ∑ k, hrow X g sh sc i n k * colw w k ⟨s.val * 128 + l.val, by omega⟩ := by
  rw [← wide_at X g sh sc w i n hn]
  pointwise [val_main_v54, val_main_v53]

end Cert.Reference3Ideal.Proj
-- ==== Proof.Proj.InOdd.Final.lean ====
/-
  The odd input projection: the scratch of modulated rows, and the written array against the reference's result.
-/
module

public import proofs.«01_k».proof.Proof.Gen.Kernel3Ideal.Frame
public import proofs.«01_k».proof.Proof.Proj.InOdd.Ref
public import Idealize.ShloMosaic.Lib.Pipeline.ValueKit
public import Idealize.ShloMosaic.Lib.Pipeline.ReadBack
public import Idealize.ShloMosaic.Lib.Pipeline.Covers
public import Idealize.ShloMosaic.Lib.StableHlo.ReadAt
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem Cert.Ffn
open Idealize.ShloMosaic.Pipeline (Dat)

/-! ## The payloads -/

/-- The normalised and modulated rows, computed at the first column tile. -/
theorem hid_at (x : Vec Ideal S512x2048 .f32) (g : Vec Ideal S1x2048 .f32) (sc sh : Vec Ideal S1x1x2048 .f32)
    (r : Fin 512) (d : Fin 2048) :
    k0_pay8 x g sc sh (ix2 r d)
      = hid (fun k => x (ix2 r k)) (fun k => g (ix2 0 k)) (fun k => sc (ix3 0 0 k)) (fun k => sh (ix3 0 0 k)) d := by
  pointwise [k0_pay8]
  rfl

/-- The column tile of the projection. -/
theorem mm_at (h : Vec Ideal S512x2048 .bf16) (w : Vec Ideal S2048x1536 .bf16) (r : Fin 512) (j : Fin 1536) :
    k0_pay9 h w (ix2 r j) = ∑ k, h (ix2 r k) * w (ix2 k j) := by
  pointwise [k0_pay9]

/-! ## The blocks -/

/-- The blocks of grid point `t`: row tile `t / 7`, column tile `t % 7`, modulation by the row tile's group. -/
theorem idx_facts : ∀ t : Fin cfg0.N,
    win0_0.index t = ![t.val / 7, 0]
    ∧ win0_1.index t = ![0, 0]
    ∧ win0_2.index t = ![(t.val / 7 - 12) / 4, 0, 0]
    ∧ win0_3.index t = ![(t.val / 7 - 12) / 4, 0, 0]
    ∧ win0_4.index t = ![0, t.val % 7]
    ∧ win0_5.index t = ![t.val % 7, t.val / 7, 0] := (by decide +kernel : ∀ t : Fin grid0.N, _)

variable (m : (ℓ : Loc nD τ sig) → Buf (Elt Ideal) ℓ)

abbrev X (c : Dev nD) : FVec Ideal S12288x2048 .f32 := m ((c : Thread nD τ).loc main_arg0)
abbrev gn (c : Dev nD) : FVec Ideal S2048 .f32 := m ((c : Thread nD τ).loc main_arg1)
abbrev sh (c : Dev nD) : FVec Ideal S8x1x2048 .f32 := m ((c : Thread nD τ).loc main_arg2)
abbrev sc (c : Dev nD) : FVec Ideal S8x1x2048 .f32 := m ((c : Thread nD τ).loc main_arg3)
abbrev wi (c : Dev nD) : FVec Ideal S2048x10368 .f32 := m ((c : Thread nD τ).loc main_arg4)

theorem lt_N (t : Fin cfg0.N) : t.val < 168 := lt_of_lt_of_eq t.isLt N_0

/-- Row `r` of the point's row tile. -/
abbrev rw_ (t : Fin cfg0.N) (r : Fin 512) : Fin 12288 := ⟨t.val / 7 * 512 + r.val, by have := lt_N t; omega⟩
/-- The point's group. -/
abbrev grp (t : Fin cfg0.N) : Fin 8 := ⟨(t.val / 7 - 12) / 4, by have := lt_N t; omega⟩
/-- Column `j` of the point's column tile. -/
abbrev cl (t : Fin cfg0.N) (j : Fin 1536) : Fin 10752 := ⟨t.val % 7 * 1536 + j.val, by omega⟩

theorem gv (c : Dev nD) (d : Fin 2048) : (V m c main_v0 : Vec Ideal S1x2048 .f32) (ix2 0 d) = gn m c (ix1 d) := by
  unfold V
  simp only [hostOps0, hostOps0_1, hostOps0_2, List.flatten_cons, List.flatten_nil, List.append_nil, List.cons_append,
    List.nil_append]
  entry_read
  pointwise

/-- The padding value is zero. -/
theorem zero_lane : (FloatOps.sitofp FTy.f32 0#32 : Ideal FTy.f32) = (0 : EReal) := by
  show (((0#32 : BitVec 32).toInt : ℝ) : EReal) = 0
  simp

/-- The weight that the kernel reads: the given columns, then zeros. -/
theorem wv (c : Dev nD) (k : Fin 2048) (q : Fin 10752) :
    (V m c main_v2 : Vec Ideal S2048x10752 .bf16) (ix2 k q) = Reference3Ideal.Proj.colw (wi m c) k q := by
  unfold V
  simp only [hostOps0, hostOps0_1, hostOps0_2, List.flatten_cons, List.flatten_nil, List.append_nil, List.cons_append,
    List.nil_append]
  after_reads_at
  rw [zero_lane]
  rfl

theorem b0 (c : Dev nD) (t : Fin cfg0.N) (r : Fin 512) (k : Fin 2048) :
    (iblk m c 0 t : Vec Ideal S512x2048 .f32) (ix2 r k) = X m c (ix2 (rw_ t r) k) := by
  blk_ext [iblk, V, idx_facts t]
theorem b1 (c : Dev nD) (t : Fin cfg0.N) (k : Fin 2048) :
    (iblk m c 1 t : Vec Ideal S1x2048 .f32) (ix2 0 k) = gn m c (ix1 k) := by
  rw [← gv]
  blk_ext [iblk, idx_facts t]
theorem b2 (c : Dev nD) (t : Fin cfg0.N) (k : Fin 2048) :
    (iblk m c 2 t : Vec Ideal S1x1x2048 .f32) (ix3 0 0 k) = sc m c (ix3 (grp t) 0 k) := by
  blk_ext [iblk, V, idx_facts t]
theorem b3 (c : Dev nD) (t : Fin cfg0.N) (k : Fin 2048) :
    (iblk m c 3 t : Vec Ideal S1x1x2048 .f32) (ix3 0 0 k) = sh m c (ix3 (grp t) 0 k) := by
  blk_ext [iblk, V, idx_facts t]
theorem b4 (c : Dev nD) (t : Fin cfg0.N) (k : Fin 2048) (j : Fin 1536) :
    (iblk m c 4 t : Vec Ideal S2048x1536 .bf16) (ix2 k j) = Reference3Ideal.Proj.colw (wi m c) k (cl t j) := by
  rw [← wv]
  blk_ext [iblk, idx_facts t]

/-! ## The scratch -/

/-- What the point before `t` left. -/
abbrev prev (c : Dev nD) (t : Fin cfg0.N) := outsAt0 m c (t.val - 1) (Nat.lt_of_le_of_lt (Nat.sub_le _ _) t.isLt)

/-- At the first column tile the scratch holds the modulated rows. -/
theorem hidA (c : Dev nD) (t : Fin cfg0.N) (h0 : t.val % 7 = 0) (y : S512x2048.Idx) :
    (outsAt0 m c t.val t.isLt).2 y = k0_pay8 (iblk m c 0 t) (iblk m c 1 t) (iblk m c 2 t) (iblk m c 3 t) y := by
  rw [outsAt0_A m c t h0]
  dsimp only
  frame_out

/-- At the other tiles it is kept. -/
theorem hidS (c : Dev nD) (t : Fin cfg0.N) (h0 : ¬t.val % 7 = 0) : (outsAt0 m c t.val t.isLt).2 = (prev m c t).2 := by
  rw [outsAt0_B m c t h0]; rfl

/-- The modulated rows, from the arguments. -/
abbrev hrow (c : Dev nD) (i : Fin 12288) (n : Fin 8) (d : Fin 2048) : EReal :=
  Reference3Ideal.Proj.hrow (X m c) (gn m c) (sh m c) (sc m c) i n d

theorem pay_eq (c : Dev nD) (t : Fin cfg0.N) (r : Fin 512) (d : Fin 2048) :
    k0_pay8 (iblk m c 0 t) (iblk m c 1 t) (iblk m c 2 t) (iblk m c 3 t) (ix2 r d) = hrow m c (rw_ t r) (grp t) d := by
  rw [hid_at]
  simp only [b0, b1, b2, b3]

/-- After every point the scratch holds the modulated rows of its row tile. -/
theorem hid_inv (c : Dev nD) (r : Fin 512) (d : Fin 2048) : ∀ (n : ℕ) (t : Fin cfg0.N), t.val = n →
    ((outsAt0 m c t.val t.isLt).2 : Vec Ideal S512x2048 .bf16) (ix2 r d) = hrow m c (rw_ t r) (grp t) d := by
  intro n
  induction n with
  | zero => exact fun t e => (hidA m c t (by omega) _).trans (pay_eq m c t r d)
  | succ n ih =>
    intro t e
    by_cases h0 : t.val % 7 = 0
    · exact (hidA m c t h0 _).trans (pay_eq m c t r d)
    · rw [hidS m c t h0]
      have hl := t.isLt
      have := ih ⟨t.val - 1, by omega⟩ (by dsimp only; omega)
      dsimp only at this
      have e1 : rw_ ⟨t.val - 1, by omega⟩ r = rw_ t r := Fin.ext (by dsimp only; omega)
      have e2 : grp ⟨t.val - 1, by omega⟩ = grp t := Fin.ext (by dsimp only; omega)
      rw [← e1, ← e2]
      exact this

/-! ## The output block -/

/-- Column tile `p` slab by slab: slab `p`, row `r`, lane `l` is column `p * 128 + l`. -/
abbrev pick (a : FVec Ideal S512x1536 .f32) (p : Fin 12) (r : Fin 512) (l : Fin 128) : EReal := a (ix2 r ⟨p.val * 128 + l.val, by omega⟩)

theorem outA (c : Dev nD) (t : Fin cfg0.N) (h0 : t.val % 7 = 0) (y : S12x512x128.Idx) :
    (outsAt0 m c t.val t.isLt).1 y
      = pick (k0_pay9 (F := Ideal) (outsAt0 m c t.val t.isLt).2 (iblk m c 4 t)) (y 0) (y 1) (y 2) := by
  have e : (outsAt0 m c t.val t.isLt).2 = k0_pay8 (iblk m c 0 t) (iblk m c 1 t) (iblk m c 2 t) (iblk m c 3 t) := funext (hidA m c t h0)
  rw [e, outsAt0_A m c t h0]
  dsimp only
  frame_out
  canon_tiles x h
  all_goals (open_payloads; pointwise; blk_ext)

theorem outB (c : Dev nD) (t : Fin cfg0.N) (h0 : ¬t.val % 7 = 0) (y : S12x512x128.Idx) :
    (outsAt0 m c t.val t.isLt).1 y
      = pick (k0_pay9 (F := Ideal) (outsAt0 m c t.val t.isLt).2 (iblk m c 4 t)) (y 0) (y 1) (y 2) := by
  rw [hidS m c t h0, outsAt0_B m c t h0]
  dsimp only
  frame_out
  rw [read_unread_whole]
  canon_tiles x h
  all_goals (open_payloads; pointwise; blk_ext)

/-- The output block after any point. -/
theorem out_at (c : Dev nD) (t : Fin cfg0.N) (p : Fin 12) (r : Fin 512) (l : Fin 128) :
    ((outsAt0 m c t.val t.isLt).1 : Vec Ideal S12x512x128 .f32) (ix3 p r l)
      = ∑ k, hrow m c (rw_ t r) (grp t) k * Reference3Ideal.Proj.colw (wi m c) k (cl t ⟨p.val * 128 + l.val, by omega⟩) := by
  have e : (outsAt0 m c t.val t.isLt).1 (ix3 p r l)
      = pick (k0_pay9 (F := Ideal) (outsAt0 m c t.val t.isLt).2 (iblk m c 4 t)) p r l := by
    by_cases h0 : t.val % 7 = 0
    · exact outA m c t h0 _
    · exact outB m c t h0 _
  rw [e, pick, mm_at]
  simp only [hid_inv m c r _ _ t rfl, b4]

/-- The written array is the reference's result. -/
theorem out_eq (c : Dev nD) : (dats m 0 c).arrAt 5 cfg0.N
    = Reference3Ideal.Read.val_main_v54 (F := Ideal) (X m c) (gn m c) (sh m c) (sc m c) (wi m c) := by
  refine (dats m 0 c).arrAt_eq_of_covers 5 _ (by decide +kernel) fun t hf y => ?_
  blk_simp
  rw [after0_5]
  obtain ⟨p, r, l, rfl⟩ : ∃ (p : Fin 12) (r : Fin 512) (l : Fin 128), y = ix3 p r l := ⟨y 0, y 1, y 2, eq_ix3 y⟩
  rw [out_at]
  have hc : ∀ k, Reference3Ideal.Proj.colw (wi m c) k (cl t ⟨p.val * 128 + l.val, by omega⟩)
      = Reference3Ideal.Proj.colw (wi m c) k ⟨(⟨t.val % 7 * 12 + p.val, by omega⟩ : Fin 84).val * 128 + l.val, by dsimp only; omega⟩ :=
    fun k => congrArg _ (Fin.ext (by dsimp only; omega))
  simp only [hc]
  refine (Reference3Ideal.Proj.ref_at (X m c) (gn m c) (sh m c) (sc m c) (wi m c) ⟨t.val % 7 * 12 + p.val, by omega⟩ (rw_ t r) l (grp t)
    (by dsimp only; omega)).symm.trans ?_
  blk_ext [idx_facts t]

end Cert.Kernel3Ideal.Proj
-- ==== Proof.Proj.InOdd.Claims.lean ====
/-
  The claims on the odd input projection: the frames, and the equality of the kernel's and the reference's result.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Proj.InOdd.Final

@[expose] public section

set_option maxRecDepth 16384

noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v3) = (dats m 0 c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c =>
    ⟨(h c).1 5,
      ((h c).1 0).trans (((dats m 0 c).arrAt_in 0 rfl _).trans <| (A_eq m c 0).trans (V_main_arg0 m c)),
      ((h c).2 main_arg1 (Pipeline.mem_restRefs_of main_arg1 (by decide) (by decide))).trans (V_main_arg1 m c),
      ((h c).1 3).trans (((dats m 0 c).arrAt_in 3 rfl _).trans <| (A_eq m c 3).trans (V_main_arg2 m c)),
      ((h c).1 2).trans (((dats m 0 c).arrAt_in 2 rfl _).trans <| (A_eq m c 2).trans (V_main_arg3 m c)),
      ((h c).2 main_arg4 (Pipeline.mem_restRefs_of main_arg4 (by decide) (by decide))).trans (V_main_arg4 m c)⟩)
    (run_main m ρ)

end Cert.Kernel3Ideal.Proj

namespace Cert.Proj.InOdd

open Idealize.ShloMosaic Idealize.ShloMosaic.TcCoe Idealize.SL.Sem

theorem frame_kernel : Cert.quiescent_Kernel3 (hKernel3 := Cert.Kernel3.Gen.facts) := fun m ρ _ => Cert.Kernel3.Gen.frame m ρ
theorem frame_ideal : Cert.quiescent_Kernel3Ideal (hKernel3Ideal := Cert.Kernel3Ideal.Gen.facts) := fun m ρ _ => Cert.Kernel3Ideal.Gen.frame m ρ
theorem frame_ref : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves : Cert.preserves_Kernel3_Kernel3Ideal := trivial

/-- The kernel's result is the reference's. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 5 Cert.Kernel3Ideal.cfg0.N, Cert.Kernel3Ideal.Proj.ends m ρ, ?_⟩
  refine (θ_run Cert.Reference3Ideal.defs _ _).mono (fun r h c => ?_) (Cert.Reference3Ideal.Value.run (F := Ideal) m' ρ')
  obtain ⟨g0, g1, g2, g3, g4⟩ := hag c
  obtain ⟨h0, hr⟩ := h c
  refine ⟨h0.trans ?_, hr⟩
  dsimp only
  rw [Cert.Reference3Ideal.Read.val_main_v54_eq, Cert.Kernel3Ideal.Proj.out_eq m c, g0, g1, g2, g3, g4]

end Cert.Proj.InOdd
-- ==== Proof.Proj.Spec.lean ====
/-
  The row over the root of its mean square, for rows of 4096.
-/
module

public import Idealize.ShloMosaic.Lib.Pointwise

@[expose] public section

set_option maxRecDepth 16384

noncomputable section

namespace Cert.Proj

open Idealize.ShloMosaic

/-- The row over the root of its mean square, times the gain. -/
def nrm (y g : Fin 4096 → EReal) (d : Fin 4096) : EReal :=
  y d * Ideal.rsqrt (Ideal.div (∑ k, y k * y k) (Ideal.ofBits FTy.f32 1166016512#32) + Ideal.ofBits FTy.f32 897988541#32) * g d

end Cert.Proj
-- ==== Proof.Proj.OutOdd.Ref.lean ====
/-
  The reference's odd output projection read at an index: the prompt rows and the sample rows.
-/
module

public import proofs.«01_k».proof.Proof.Gen.Reference4Ideal.Read
public import proofs.«01_k».proof.Proof.Proj.Spec
public import Idealize.ShloMosaic.Lib.Pointwise
public import Idealize.ShloMosaic.Lib.Pipeline.ValueKit

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem Cert.Proj

variable (X : FVec Ideal S12288x2048 .f32) (gt : FVec Ideal S8x1x2048 .f32)
variable (y : FVec Ideal S12288x4096 .f32) (gn : FVec Ideal S4096 .f32) (w : FVec Ideal S4096x2048 .f32)

/-- The normalised row `i`. -/
abbrev yrow (i : Fin 12288) (d : Fin 4096) : EReal := nrm (fun k => y (ix2 i k)) (fun k => gn (ix1 k)) d

/-- The specification at row `i` with the gate `n`. -/
abbrev spec (i : Fin 12288) (n : Fin 8) (d : Fin 2048) : EReal :=
  X (ix2 i d) + gt (ix3 n 0 d) * ∑ k, yrow y gn i k * w (ix2 k d)

/-- The normalised rows of the prompt. -/
theorem v17_at (b : Fin 32) (r : Fin 256) (d : Fin 4096) :
    val_main_v17 (F := Ideal) y gn (ix3 b r d) = yrow y gn ⟨b.val * 256 + r.val, by omega⟩ d := by
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

/-- The normalised rows of the samples. -/
theorem v39_at (b : Fin 2) (r : Fin 2048) (d : Fin 4096) :
    val_main_v39 (F := Ideal) y gn (ix3 b r d) = yrow y gn ⟨8192 + (b.val * 2048 + r.val), by omega⟩ d := by
  pointwise [val_main_v39, val_main_v38, val_main_v37, val_main_v36, val_main_v35, val_main_v34, val_main_v33, val_main_v32, val_main_v31, val_main_v30, val_main_v29, val_main_v28, val_main_v27, val_main_v26, val_main_v25, val_main_cst_2, val_main_cst_3, val_main_cst_4]
  rfl

/-- A prompt row of the result. -/
theorem v21_at (b : Fin 32) (r : Fin 256) (d : Fin 2048) :
    val_main_v21 (F := Ideal) X gt y gn w (ix3 b r d) = spec X gt y gn w ⟨b.val * 256 + r.val, by omega⟩ 0 d := by
  pointwise [val_main_v21, val_main_v20, val_main_v19, val_main_v18, val_main_v2, val_main_v1, val_main_v0]
  simp only [v17_at]

/-- A sample row of the result. -/
theorem v43_at (b : Fin 2) (r : Fin 2048) (d : Fin 2048) :
    val_main_v43 (F := Ideal) X gt y gn w (ix3 b r d)
      = spec X gt y gn w ⟨8192 + (b.val * 2048 + r.val), by omega⟩ ⟨1 + b.val, by omega⟩ d := by
  pointwise [val_main_v43, val_main_v42, val_main_v41, val_main_v40, val_main_v24, val_main_v23, val_main_v22]
  simp only [v39_at]

/-- The result at a prompt row. -/
theorem prompt_at (b : Fin 32) (r : Fin 256) (d : Fin 2048) :
    val_main_v46 (F := Ideal) X gt y gn w (ix2 ⟨b.val * 256 + r.val, by omega⟩ d) = spec X gt y gn w ⟨b.val * 256 + r.val, by omega⟩ 0 d := by
  rw [← v21_at]
  pointwise [val_main_v46, val_main_v44]
  exact dif_pos (by omega)

/-- The last rows of the result are the samples'. -/
theorem tail_at (i : Fin 12288) (h : ¬i.val < 8192) (d : Fin 2048) :
    val_main_v46 (F := Ideal) X gt y gn w (ix2 i d) = val_main_v45 (F := Ideal) X gt y gn w (ix2 ⟨i.val - 8192, by omega⟩ d) := by
  pointwise [val_main_v46]
  exact dif_neg h

/-- The samples' rows, flattened. -/
theorem v45_at (b : Fin 2) (r : Fin 2048) (d : Fin 2048) :
    val_main_v45 (F := Ideal) X gt y gn w (ix2 ⟨b.val * 2048 + r.val, by omega⟩ d) = val_main_v43 (F := Ideal) X gt y gn w (ix3 b r d) := by
  pointwise [val_main_v45]

/-- The result at a sample row. -/
theorem sample_at (b : Fin 2) (r : Fin 2048) (d : Fin 2048) :
    val_main_v46 (F := Ideal) X gt y gn w (ix2 ⟨8192 + (b.val * 2048 + r.val), by omega⟩ d)
      = spec X gt y gn w ⟨8192 + (b.val * 2048 + r.val), by omega⟩ ⟨1 + b.val, by omega⟩ d := by
  rw [← v43_at, ← v45_at, tail_at X gt y gn w _ (Nat.not_lt.mpr (Nat.le_add_right _ _))]
  exact congrArg (fun n => val_main_v45 (F := Ideal) X gt y gn w (ix2 n d)) (Fin.ext (Nat.add_sub_cancel_left _ _))

/-- The result at any row: the gate is the row's group's. -/
theorem ref_at (i : Fin 12288) (n : Fin 8) (hn : n.val = (i.val / 512 - 12) / 4) (d : Fin 2048) :
    val_main_v46 (F := Ideal) X gt y gn w (ix2 i d) = spec X gt y gn w i n d := by
  by_cases h : i.val < 8192
  · have e : i = ⟨(⟨i.val / 256, by omega⟩ : Fin 32).val * 256 + (⟨i.val % 256, by omega⟩ : Fin 256).val, by dsimp only; omega⟩ :=
      Fin.ext (by dsimp only; omega)
    have en : n = 0 := Fin.ext (by rw [hn]; show _ = 0; omega)
    rw [e, en]
    exact prompt_at X gt y gn w _ _ d
  · have e : i = ⟨8192 + ((⟨(i.val - 8192) / 2048, by omega⟩ : Fin 2).val * 2048 + (⟨(i.val - 8192) % 2048, by omega⟩ : Fin 2048).val), by dsimp only; omega⟩ :=
      Fin.ext (by dsimp only; omega)
    have en : n = ⟨1 + (⟨(i.val - 8192) / 2048, by omega⟩ : Fin 2).val, by dsimp only; omega⟩ := Fin.ext (by dsimp only; omega)
    rw [e, en]
    exact sample_at X gt y gn w _ _ d

end Cert.Reference4Ideal.Proj
-- ==== Proof.Proj.OutOdd.Final.lean ====
/-
  The odd output projection: the written array against the reference's result.
-/
module

public import proofs.«01_k».proof.Proof.Gen.Kernel4Ideal.Frame
public import proofs.«01_k».proof.Proof.Proj.OutOdd.Ref
public import Idealize.ShloMosaic.Lib.Pipeline.ValueKit
public import Idealize.ShloMosaic.Lib.Pipeline.ReadBack
public import Idealize.ShloMosaic.Lib.Pipeline.Covers
public import Idealize.ShloMosaic.Lib.StableHlo.ReadAt
public import Idealize.ShloMosaic.Lib.Pointwise

@[expose] public section

set_option maxRecDepth 16384

noncomputable section

namespace Cert.Kernel4Ideal.Proj

open Cert.Kernel4Ideal Cert.Kernel4Ideal.Gen Idealize.ShloMosaic Idealize.ShloMosaic.TcCoe Idealize.SL.Sem Cert.Proj
open Idealize.ShloMosaic.Pipeline (Dat)

variable (m : (ℓ : Loc nD τ sig) → Buf (Elt Ideal) ℓ)

theorem lt_N (t : Fin cfg0.N) : t.val < 96 := lt_of_lt_of_eq t.isLt N_0

/-- Row `r` of the point's row tile. -/
abbrev rw_ (t : Fin cfg0.N) (r : Fin 512) : Fin 12288 := ⟨t.val / 4 * 512 + r.val, by have := lt_N t; omega⟩
/-- The point's group. -/
abbrev grp (t : Fin cfg0.N) : Fin 8 := ⟨(t.val / 4 - 12) / 4, by have := lt_N t; omega⟩
/-- Column `j` of the point's column tile. -/
abbrev cl (t : Fin cfg0.N) (j : Fin 512) : Fin 2048 := ⟨t.val % 4 * 512 + j.val, by omega⟩

abbrev X (c : Dev nD) : FVec Ideal S12288x2048 .f32 := m ((c : Thread nD τ).loc main_arg0)
abbrev gt (c : Dev nD) : FVec Ideal S8x1x2048 .f32 := m ((c : Thread nD τ).loc main_arg1)
abbrev yy (c : Dev nD) : FVec Ideal S12288x4096 .f32 := m ((c : Thread nD τ).loc main_arg2)
abbrev gn (c : Dev nD) : FVec Ideal S4096 .f32 := m ((c : Thread nD τ).loc main_arg3)
abbrev wo (c : Dev nD) : FVec Ideal S4096x2048 .f32 := m ((c : Thread nD τ).loc main_arg4)

/-- The blocks of grid point `t`: row tile `t / 4`, column tile `t % 4`, gate by the row tile's group. -/
theorem idx_facts : ∀ t : Fin cfg0.N,
    win0_0.index t = ![t.val / 4, t.val % 4]
    ∧ win0_1.index t = ![(t.val / 4 - 12) / 4, 0, t.val % 4]
    ∧ win0_2.index t = ![t.val / 4, 0]
    ∧ win0_3.index t = ![0, 0]
    ∧ win0_4.index t = ![0, t.val % 4]
    ∧ win0_5.index t = ![t.val / 4, t.val % 4] := (by decide +kernel : ∀ t : Fin grid0.N, _)

/-! ## The payloads -/

/-- The normalised rows, computed at the first column tile. -/
theorem nrm_at (y : Vec Ideal S512x4096 .f32) (g : Vec Ideal S1x4096 .f32) (r : Fin 512) (d : Fin 4096) :
    k0_pay1 y g (ix2 r d) = nrm (fun k => y (ix2 r k)) (fun k => g (ix2 0 k)) d := by
  pointwise [k0_pay1]
  rfl

/-- The stored block. -/
theorem res_at (x : Vec Ideal S512x512 .f32) (g : Vec Ideal S1x1x512 .f32) (y : Vec Ideal S512x4096 .bf16) (w : Vec Ideal S4096x512 .bf16)
    (r : Fin 512) (d : Fin 512) :
    k0_pay2 x g y w (ix2 r d) = x (ix2 r d) + g (ix3 0 0 d) * ∑ k, y (ix2 r k) * w (ix2 k d) := by
  pointwise [k0_pay2]

/-! ## The blocks -/

theorem v0 (c : Dev nD) (d : Fin 4096) : (V m c main_v0 : Vec Ideal S1x4096 .f32) (ix2 0 d) = gn m c (ix1 d) := by
  entry_read
  pointwise
theorem v1 (c : Dev nD) (k : Fin 4096) (j : Fin 2048) : (V m c main_v1 : Vec Ideal S4096x2048 .bf16) (ix2 k j) = wo m c (ix2 k j) := by
  entry_read
  pointwise

theorem b0 (c : Dev nD) (t : Fin cfg0.N) (r : Fin 512) (d : Fin 512) :
    (iblk m c 0 t : Vec Ideal S512x512 .f32) (ix2 r d) = X m c (ix2 (rw_ t r) (cl t d)) := by
  blk_ext [iblk, V, idx_facts t]
theorem b1 (c : Dev nD) (t : Fin cfg0.N) (d : Fin 512) :
    (iblk m c 1 t : Vec Ideal S1x1x512 .f32) (ix3 0 0 d) = gt m c (ix3 (grp t) 0 (cl t d)) := by
  blk_ext [iblk, V, idx_facts t]
theorem b2 (c : Dev nD) (t : Fin cfg0.N) (r : Fin 512) (k : Fin 4096) :
    (iblk m c 2 t : Vec Ideal S512x4096 .f32) (ix2 r k) = yy m c (ix2 (rw_ t r) k) := by
  blk_ext [iblk, V, idx_facts t]
theorem b3 (c : Dev nD) (t : Fin cfg0.N) (k : Fin 4096) :
    (iblk m c 3 t : Vec Ideal S1x4096 .f32) (ix2 0 k) = gn m c (ix1 k) := by
  rw [← v0]
  blk_ext [iblk, idx_facts t]
theorem b4 (c : Dev nD) (t : Fin cfg0.N) (k : Fin 4096) (d : Fin 512) :
    (iblk m c 4 t : Vec Ideal S4096x512 .bf16) (ix2 k d) = wo m c (ix2 k (cl t d)) := by
  rw [← v1]
  blk_ext [iblk, idx_facts t]

/-! ## The scratch -/

/-- What the point before `t` left. -/
abbrev prev (c : Dev nD) (t : Fin cfg0.N) := outsAt0 m c (t.val - 1) (Nat.lt_of_le_of_lt (Nat.sub_le _ _) t.isLt)

/-- At the first column tile the scratch holds the normalised rows. -/
theorem nrmA (c : Dev nD) (t : Fin cfg0.N) (h0 : t.val % 4 = 0) (y : S512x4096.Idx) :
    (outsAt0 m c t.val t.isLt).2 y = k0_pay1 (iblk m c 2 t) (iblk m c 3 t) y := by
  rw [outsAt0_A m c t h0]
  dsimp only
  frame_out

/-- At the other tiles it is kept. -/
theorem nrmS (c : Dev nD) (t : Fin cfg0.N) (h0 : ¬t.val % 4 = 0) : (outsAt0 m c t.val t.isLt).2 = (prev m c t).2 := by
  rw [outsAt0_B m c t h0]; rfl

/-- The normalised rows, from the arguments. -/
abbrev yrow (c : Dev nD) (i : Fin 12288) (d : Fin 4096) : EReal := Reference4Ideal.Proj.yrow (yy m c) (gn m c) i d

theorem pay_eq (c : Dev nD) (t : Fin cfg0.N) (r : Fin 512) (d : Fin 4096) :
    k0_pay1 (iblk m c 2 t) (iblk m c 3 t) (ix2 r d) = yrow m c (rw_ t r) d := by
  rw [nrm_at]
  simp only [b2, b3]

/-- After every point the scratch holds the normalised rows of its row tile. -/
theorem nrm_inv (c : Dev nD) (r : Fin 512) (d : Fin 4096) : ∀ (n : ℕ) (t : Fin cfg0.N), t.val = n →
    ((outsAt0 m c t.val t.isLt).2 : Vec Ideal S512x4096 .bf16) (ix2 r d) = yrow m c (rw_ t r) d := by
  intro n
  induction n with
  | zero => exact fun t e => (nrmA m c t (by omega) _).trans (pay_eq m c t r d)
  | succ n ih =>
    intro t e
    by_cases h0 : t.val % 4 = 0
    · exact (nrmA m c t h0 _).trans (pay_eq m c t r d)
    · rw [nrmS m c t h0]
      have hl := t.isLt
      have := ih ⟨t.val - 1, by omega⟩ (by dsimp only; omega)
      dsimp only at this
      have e1 : rw_ ⟨t.val - 1, by omega⟩ r = rw_ t r := Fin.ext (by dsimp only; omega)
      rw [← e1]
      exact this

/-! ## The output block -/

theorem out_pay (c : Dev nD) (t : Fin cfg0.N) (y : S512x512.Idx) :
    (outsAt0 m c t.val t.isLt).1 y = k0_pay2 (iblk m c 0 t) (iblk m c 1 t) (outsAt0 m c t.val t.isLt).2 (iblk m c 4 t) y := by
  by_cases h0 : t.val % 4 = 0
  · have e : (outsAt0 m c t.val t.isLt).2 = k0_pay1 (iblk m c 2 t) (iblk m c 3 t) := funext (nrmA m c t h0)
    rw [e, outsAt0_A m c t h0]
    dsimp only
    frame_out
  · rw [nrmS m c t h0, outsAt0_B m c t h0]
    dsimp only
    frame_out
    rw [read_unread_whole]

/-- The written array is the reference's result. -/
theorem out_eq (c : Dev nD) : (dats m 0 c).arrAt 5 cfg0.N
    = Reference4Ideal.Read.val_main_v46 (F := Ideal) (X m c) (gt m c) (yy m c) (gn m c) (wo m c) := by
  refine (dats m 0 c).arrAt_eq_of_covers 5 _ (by decide +kernel) fun t hf y => ?_
  blk_simp
  rw [after0_5]
  obtain ⟨r, d, rfl⟩ : ∃ (r : Fin 512) (d : Fin 512), y = ix2 r d := ⟨y 0, y 1, eq_ix2 y⟩
  rw [out_pay, res_at, b0, b1]
  simp only [nrm_inv m c r _ _ t rfl, b4]
  refine (Reference4Ideal.Proj.ref_at (X m c) (gt m c) (yy m c) (gn m c) (wo m c) (rw_ t r) (grp t)
    (by dsimp only; omega) (cl t d)).symm.trans ?_
  blk_ext [idx_facts t]

end Cert.Kernel4Ideal.Proj
-- ==== Proof.Proj.OutOdd.Claims.lean ====
/-
  The claims on the odd output projection: the frames, and the equality of the kernel's and the reference's result.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Proj.OutOdd.Final

@[expose] public section

set_option maxRecDepth 16384

noncomputable section

namespace Cert.Kernel4Ideal.Proj

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v2) = (dats m 0 c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c =>
    ⟨(h c).1 5,
      ((h c).1 0).trans (((dats m 0 c).arrAt_in 0 rfl _).trans <| (A_eq m c 0).trans (V_main_arg0 m c)),
      ((h c).1 1).trans (((dats m 0 c).arrAt_in 1 rfl _).trans <| (A_eq m c 1).trans (V_main_arg1 m c)),
      ((h c).1 2).trans (((dats m 0 c).arrAt_in 2 rfl _).trans <| (A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel4Ideal.Proj

namespace Cert.Proj.OutOdd

open Idealize.ShloMosaic Idealize.ShloMosaic.TcCoe Idealize.SL.Sem

theorem frame_kernel : Cert.quiescent_Kernel4 (hKernel4 := Cert.Kernel4.Gen.facts) := fun m ρ _ => Cert.Kernel4.Gen.frame m ρ
theorem frame_ideal : Cert.quiescent_Kernel4Ideal (hKernel4Ideal := Cert.Kernel4Ideal.Gen.facts) := fun m ρ _ => Cert.Kernel4Ideal.Gen.frame m ρ
theorem frame_ref : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem preserves : Cert.preserves_Kernel4_Kernel4Ideal := trivial

/-- The kernel's result is the reference's. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 5 Cert.Kernel4Ideal.cfg0.N, Cert.Kernel4Ideal.Proj.ends m ρ, ?_⟩
  refine (θ_run Cert.Reference4Ideal.defs _ _).mono (fun r h c => ?_) (Cert.Reference4Ideal.Value.run (F := Ideal) m' ρ')
  obtain ⟨g0, g1, g2, g3, g4⟩ := hag c
  obtain ⟨h0, hr⟩ := h c
  refine ⟨h0.trans ?_, hr⟩
  dsimp only
  rw [Cert.Reference4Ideal.Read.val_main_v46_eq, Cert.Kernel4Ideal.Proj.out_eq m c, g0, g1, g2, g3, g4]

end Cert.Proj.OutOdd
-- ==== Proof.Proj.OutEven.Ref.lean ====
/-
  The reference's even output projection read at an index: the prompt rows and the sample rows.
-/
module

public import proofs.«01_k».proof.Proof.Gen.Reference5Ideal.Read
public import proofs.«01_k».proof.Proof.Proj.Spec
public import Idealize.ShloMosaic.Lib.Pointwise
public import Idealize.ShloMosaic.Lib.Pipeline.ValueKit

@[expose] public section

set_option maxRecDepth 16384

noncomputable section

namespace Cert.Reference5Ideal.Proj

open Cert.Reference5Ideal Cert.Reference5Ideal.Gen Cert.Reference5Ideal.Read Idealize.ShloMosaic Idealize.ShloMosaic.TcCoe Idealize.SL.Sem Cert.Proj

variable (X : FVec Ideal S12288x2048 .f32) (gt : FVec Ideal S8x1x2048 .f32)
variable (ha ob : FVec Ideal S12288x1024 .bf16) (w : FVec Ideal S2048x2048 .f32)

/-- Column `k` of the row of the two joined. -/
def cat (i : Fin 12288) (k : Fin 2048) : EReal :=
  if h : k.val < 1024 then ha (ix2 i ⟨k.val, h⟩) else ob (ix2 i ⟨k.val - 1024, by omega⟩)

/-- The specification at row `i` with the gate `n`. -/
abbrev spec (i : Fin 12288) (n : Fin 8) (d : Fin 2048) : EReal :=
  X (ix2 i d) + gt (ix3 n 0 d) * ∑ k, cat ha ob i k * w (ix2 k d)

/-- The joined rows of the prompt. -/
theorem v8_at (b : Fin 32) (r : Fin 256) (k : Fin 2048) :
    val_main_v8 (F := Ideal) ha ob (ix3 b r k) = cat ha ob ⟨b.val * 256 + r.val, by omega⟩ k := by
  pointwise [val_main_v8, val_main_v7, val_main_v6, val_main_v5, val_main_v4, val_main_v3]
  rfl

/-- The joined rows of the samples. -/
theorem v21_at (b : Fin 2) (r : Fin 2048) (k : Fin 2048) :
    val_main_v21 (F := Ideal) ha ob (ix3 b r k) = cat ha ob ⟨8192 + (b.val * 2048 + r.val), by omega⟩ k := by
  pointwise [val_main_v21, val_main_v20, val_main_v19, val_main_v18, val_main_v17, val_main_v16]
  rfl

/-- A prompt row of the result. -/
theorem v12_at (b : Fin 32) (r : Fin 256) (d : Fin 2048) :
    val_main_v12 (F := Ideal) X gt ha ob w (ix3 b r d) = spec X gt ha ob w ⟨b.val * 256 + r.val, by omega⟩ 0 d := by
  pointwise [val_main_v12, val_main_v11, val_main_v10, val_main_v9, val_main_v2, val_main_v1, val_main_v0]
  simp only [v8_at]

/-- A sample row of the result. -/
theorem v25_at (b : Fin 2) (r : Fin 2048) (d : Fin 2048) :
    val_main_v25 (F := Ideal) X gt ha ob w (ix3 b r d)
      = spec X gt ha ob w ⟨8192 + (b.val * 2048 + r.val), by omega⟩ ⟨1 + b.val, by omega⟩ d := by
  pointwise [val_main_v25, val_main_v24, val_main_v23, val_main_v22, val_main_v15, val_main_v14, val_main_v13]
  simp only [v21_at]

/-- The result at a prompt row. -/
theorem prompt_at (b : Fin 32) (r : Fin 256) (d : Fin 2048) :
    val_main_v28 (F := Ideal) X gt ha ob w (ix2 ⟨b.val * 256 + r.val, by omega⟩ d) = spec X gt ha ob w ⟨b.val * 256 + r.val, by omega⟩ 0 d := by
  rw [← v12_at]
  pointwise [val_main_v28, val_main_v26]
  exact dif_pos (by omega)

/-- The last rows of the result are the samples'. -/
theorem tail_at (i : Fin 12288) (h : ¬i.val < 8192) (d : Fin 2048) :
    val_main_v28 (F := Ideal) X gt ha ob w (ix2 i d) = val_main_v27 (F := Ideal) X gt ha ob w (ix2 ⟨i.val - 8192, by omega⟩ d) := by
  pointwise [val_main_v28]
  exact dif_neg h

/-- The samples' rows, flattened. -/
theorem v27_at (b : Fin 2) (r : Fin 2048) (d : Fin 2048) :
    val_main_v27 (F := Ideal) X gt ha ob w (ix2 ⟨b.val * 2048 + r.val, by omega⟩ d) = val_main_v25 (F := Ideal) X gt ha ob w (ix3 b r d) := by
  pointwise [val_main_v27]

/-- The result at a sample row. -/
theorem sample_at (b : Fin 2) (r : Fin 2048) (d : Fin 2048) :
    val_main_v28 (F := Ideal) X gt ha ob w (ix2 ⟨8192 + (b.val * 2048 + r.val), by omega⟩ d)
      = spec X gt ha ob w ⟨8192 + (b.val * 2048 + r.val), by omega⟩ ⟨1 + b.val, by omega⟩ d := by
  rw [← v25_at, ← v27_at, tail_at X gt ha ob w _ (Nat.not_lt.mpr (Nat.le_add_right _ _))]
  exact congrArg (fun n => val_main_v27 (F := Ideal) X gt ha ob w (ix2 n d)) (Fin.ext (Nat.add_sub_cancel_left _ _))

/-- The result at any row: the gate is the row's group's. -/
theorem ref_at (i : Fin 12288) (n : Fin 8) (hn : n.val = (i.val / 512 - 12) / 4) (d : Fin 2048) :
    val_main_v28 (F := Ideal) X gt ha ob w (ix2 i d) = spec X gt ha ob w i n d := by
  by_cases h : i.val < 8192
  · have e : i = ⟨(⟨i.val / 256, by omega⟩ : Fin 32).val * 256 + (⟨i.val % 256, by omega⟩ : Fin 256).val, by dsimp only; omega⟩ :=
      Fin.ext (by dsimp only; omega)
    have en : n = 0 := Fin.ext (by rw [hn]; show _ = 0; omega)
    rw [e, en]
    exact prompt_at X gt ha ob w _ _ d
  · have e : i = ⟨8192 + ((⟨(i.val - 8192) / 2048, by omega⟩ : Fin 2).val * 2048 + (⟨(i.val - 8192) % 2048, by omega⟩ : Fin 2048).val), by dsimp only; omega⟩ :=
      Fin.ext (by dsimp only; omega)
    have en : n = ⟨1 + (⟨(i.val - 8192) / 2048, by omega⟩ : Fin 2).val, by dsimp only; omega⟩ := Fin.ext (by dsimp only; omega)
    rw [e, en]
    exact sample_at X gt ha ob w _ _ d

end Cert.Reference5Ideal.Proj
-- ==== Proof.Proj.OutEven.Final.lean ====
/-
  The even output projection: the written array against the reference's result.
-/
module

public import proofs.«01_k».proof.Proof.Gen.Kernel5Ideal.Frame
public import proofs.«01_k».proof.Proof.Proj.OutEven.Ref
public import Idealize.ShloMosaic.Lib.Pipeline.ValueKit
public import Idealize.ShloMosaic.Lib.Pipeline.ReadBack
public import Idealize.ShloMosaic.Lib.Pipeline.Covers
public import Idealize.ShloMosaic.Lib.StableHlo.ReadAt
public import Idealize.ShloMosaic.Lib.Pointwise

@[expose] public section

set_option maxRecDepth 16384

noncomputable section

namespace Cert.Kernel5Ideal.Proj

open Cert.Kernel5Ideal Cert.Kernel5Ideal.Gen Idealize.ShloMosaic Idealize.ShloMosaic.TcCoe Idealize.SL.Sem Cert.Proj
open Idealize.ShloMosaic.Pipeline (Dat)

variable (m : (ℓ : Loc nD τ sig) → Buf (Elt Ideal) ℓ)

theorem lt_N (t : Fin cfg0.N) : t.val < 96 := lt_of_lt_of_eq t.isLt N_0

/-- Row `r` of the point's row tile. -/
abbrev rw_ (t : Fin cfg0.N) (r : Fin 512) : Fin 12288 := ⟨t.val / 4 * 512 + r.val, by have := lt_N t; omega⟩
/-- The point's group. -/
abbrev grp (t : Fin cfg0.N) : Fin 8 := ⟨(t.val / 4 - 12) / 4, by have := lt_N t; omega⟩
/-- Column `j` of the point's column tile. -/
abbrev cl (t : Fin cfg0.N) (j : Fin 512) : Fin 2048 := ⟨t.val % 4 * 512 + j.val, by omega⟩

abbrev X (c : Dev nD) : FVec Ideal S12288x2048 .f32 := m ((c : Thread nD τ).loc main_arg0)
abbrev gt (c : Dev nD) : FVec Ideal S8x1x2048 .f32 := m ((c : Thread nD τ).loc main_arg1)
abbrev ha (c : Dev nD) : FVec Ideal S12288x1024 .bf16 := m ((c : Thread nD τ).loc main_arg2)
abbrev ob (c : Dev nD) : FVec Ideal S12288x1024 .bf16 := m ((c : Thread nD τ).loc main_arg3)
abbrev wo (c : Dev nD) : FVec Ideal S2048x2048 .f32 := m ((c : Thread nD τ).loc main_arg4)

/-- The blocks of grid point `t`: row tile `t / 4`, column tile `t % 4`, gate by the row tile's group. -/
theorem idx_facts : ∀ t : Fin cfg0.N,
    win0_0.index t = ![t.val / 4, t.val % 4]
    ∧ win0_1.index t = ![(t.val / 4 - 12) / 4, 0, t.val % 4]
    ∧ win0_2.index t = ![t.val / 4, 0]
    ∧ win0_3.index t = ![t.val / 4, 0]
    ∧ win0_4.index t = ![0, t.val % 4]
    ∧ win0_5.index t = ![0, t.val % 4]
    ∧ win0_6.index t = ![t.val / 4, t.val % 4] := (by decide +kernel : ∀ t : Fin grid0.N, _)

/-- The stored block. -/
theorem res_at (a : Vec Ideal S512x1024 .bf16) (wa : Vec Ideal S1024x512 .bf16) (b : Vec Ideal S512x1024 .bf16) (wb : Vec Ideal S1024x512 .bf16)
    (x : Vec Ideal S512x512 .f32) (g : Vec Ideal S1x1x512 .f32) (r : Fin 512) (d : Fin 512) :
    k0_pay1 a wa b wb x g (ix2 r d)
      = x (ix2 r d) + g (ix3 0 0 d) * ((∑ k, a (ix2 r k) * wa (ix2 k d)) + ∑ k, b (ix2 r k) * wb (ix2 k d)) := by
  pointwise [k0_pay1]

/-! ## The blocks -/

theorem v1 (c : Dev nD) (k : Fin 1024) (j : Fin 2048) :
    (V m c main_v1 : Vec Ideal S1024x2048 .bf16) (ix2 k j) = wo m c (ix2 ⟨k.val, by omega⟩ j) := by
  entry_read
  pointwise
theorem v2 (c : Dev nD) (k : Fin 1024) (j : Fin 2048) :
    (V m c main_v2 : Vec Ideal S1024x2048 .bf16) (ix2 k j) = wo m c (ix2 ⟨1024 + k.val, by omega⟩ j) := by
  entry_read
  pointwise

theorem b0 (c : Dev nD) (t : Fin cfg0.N) (r : Fin 512) (d : Fin 512) :
    (iblk m c 0 t : Vec Ideal S512x512 .f32) (ix2 r d) = X m c (ix2 (rw_ t r) (cl t d)) := by
  blk_ext [iblk, V, idx_facts t]
theorem b1 (c : Dev nD) (t : Fin cfg0.N) (d : Fin 512) :
    (iblk m c 1 t : Vec Ideal S1x1x512 .f32) (ix3 0 0 d) = gt m c (ix3 (grp t) 0 (cl t d)) := by
  blk_ext [iblk, V, idx_facts t]
theorem b2 (c : Dev nD) (t : Fin cfg0.N) (r : Fin 512) (k : Fin 1024) :
    (iblk m c 2 t : Vec Ideal S512x1024 .bf16) (ix2 r k) = ha m c (ix2 (rw_ t r) k) := by
  blk_ext [iblk, V, idx_facts t]
theorem b3 (c : Dev nD) (t : Fin cfg0.N) (r : Fin 512) (k : Fin 1024) :
    (iblk m c 3 t : Vec Ideal S512x1024 .bf16) (ix2 r k) = ob m c (ix2 (rw_ t r) k) := by
  blk_ext [iblk, V, idx_facts t]
theorem b4 (c : Dev nD) (t : Fin cfg0.N) (k : Fin 1024) (d : Fin 512) :
    (iblk m c 4 t : Vec Ideal S1024x512 .bf16) (ix2 k d) = wo m c (ix2 ⟨k.val, by omega⟩ (cl t d)) := by
  rw [← v1]
  blk_ext [iblk, idx_facts t]
theorem b5 (c : Dev nD) (t : Fin cfg0.N) (k : Fin 1024) (d : Fin 512) :
    (iblk m c 5 t : Vec Ideal S1024x512 .bf16) (ix2 k d) = wo m c (ix2 ⟨1024 + k.val, by omega⟩ (cl t d)) := by
  rw [← v2]
  blk_ext [iblk, idx_facts t]

/-- The product of the joined row is the sum of the two products. -/
theorem split (a b : Fin 1024 → EReal) (f : Fin 2048 → EReal) (hf : ∀ k : Fin 1024, f ⟨k.val, by omega⟩ = a k)
    (hg : ∀ k : Fin 1024, f ⟨1024 + k.val, by omega⟩ = b k) : (∑ k, f k) = (∑ k, a k) + ∑ k, b k := by
  rw [show (∑ k, f k) = ∑ k : Fin (1024 + 1024), f k from rfl, Fin.sum_univ_add]
  exact congrArg₂ _ (Finset.sum_congr rfl fun k _ => hf k) (Finset.sum_congr rfl fun k _ => hg k)

/-- The written array is the reference's result. -/
theorem out_eq (c : Dev nD) : (dats m 0 c).arrAt 6 cfg0.N
    = Reference5Ideal.Read.val_main_v28 (F := Ideal) (X m c) (gt m c) (ha m c) (ob m c) (wo m c) := by
  refine (dats m 0 c).arrAt_eq_of_covers 6 _ (by decide +kernel) fun t hf y => ?_
  blk_simp
  rw [after0_6]
  frame_out
  obtain ⟨r, d, rfl⟩ : ∃ (r : Fin 512) (d : Fin 512), y = ix2 r d := ⟨y 0, y 1, eq_ix2 y⟩
  rw [res_at, b0, b1]
  simp only [b2, b3, b4, b5]
  refine Eq.trans ?_ ((Reference5Ideal.Proj.ref_at (X m c) (gt m c) (ha m c) (ob m c) (wo m c) (rw_ t r) (grp t)
    (by dsimp only; omega) (cl t d)).symm.trans ?_)
  · unfold Reference5Ideal.Proj.spec
    rw [split (fun k => ha m c (ix2 (rw_ t r) k) * wo m c (ix2 ⟨k.val, by omega⟩ (cl t d)))
      (fun k => ob m c (ix2 (rw_ t r) k) * wo m c (ix2 ⟨1024 + k.val, by omega⟩ (cl t d))) _
      (fun k => by dsimp only [Reference5Ideal.Proj.cat]; rw [dif_pos k.isLt])
      (fun k => by
        dsimp only [Reference5Ideal.Proj.cat]
        rw [dif_neg (by omega)]
        exact congrArg (fun n => ob m c (ix2 (rw_ t r) n) * _) (Fin.ext (Nat.add_sub_cancel_left _ _)))]
  · blk_ext [idx_facts t]

end Cert.Kernel5Ideal.Proj
-- ==== Proof.Proj.OutEven.Claims.lean ====
/-
  The claims on the even output projection: the frames, and the equality of the kernel's and the reference's result.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Proj.OutEven.Final

@[expose] public section

set_option maxRecDepth 16384

noncomputable section

namespace Cert.Kernel5Ideal.Proj

open Cert.Kernel5Ideal Cert.Kernel5Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v3) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c =>
    ⟨(h c).1 6,
      ((h c).1 0).trans (((dats m 0 c).arrAt_in 0 rfl _).trans <| (A_eq m c 0).trans (V_main_arg0 m c)),
      ((h c).1 1).trans (((dats m 0 c).arrAt_in 1 rfl _).trans <| (A_eq m c 1).trans (V_main_arg1 m c)),
      ((h c).1 2).trans (((dats m 0 c).arrAt_in 2 rfl _).trans <| (A_eq m c 2).trans (V_main_arg2 m c)),
      ((h c).1 3).trans (((dats m 0 c).arrAt_in 3 rfl _).trans <| (A_eq m c 3).trans (V_main_arg3 m c)),
      ((h c).2 main_arg4 (Pipeline.mem_restRefs_of main_arg4 (by decide) (by decide))).trans (V_main_arg4 m c)⟩)
    (run_main m ρ)

end Cert.Kernel5Ideal.Proj

namespace Cert.Proj.OutEven

open Idealize.ShloMosaic Idealize.ShloMosaic.TcCoe Idealize.SL.Sem

theorem frame_kernel : Cert.quiescent_Kernel5 (hKernel5 := Cert.Kernel5.Gen.facts) := fun m ρ _ => Cert.Kernel5.Gen.frame m ρ
theorem frame_ideal : Cert.quiescent_Kernel5Ideal (hKernel5Ideal := Cert.Kernel5Ideal.Gen.facts) := fun m ρ _ => Cert.Kernel5Ideal.Gen.frame m ρ
theorem frame_ref : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)
theorem preserves : Cert.preserves_Kernel5_Kernel5Ideal := trivial

/-- The kernel's result is the reference's. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 6 Cert.Kernel5Ideal.cfg0.N, Cert.Kernel5Ideal.Proj.ends m ρ, ?_⟩
  refine (θ_run Cert.Reference5Ideal.defs _ _).mono (fun r h c => ?_) (Cert.Reference5Ideal.Value.run (F := Ideal) m' ρ')
  obtain ⟨g0, g1, g2, g3, g4⟩ := hag c
  obtain ⟨h0, hr⟩ := h c
  refine ⟨h0.trans ?_, hr⟩
  dsimp only
  rw [Cert.Reference5Ideal.Read.val_main_v28_eq, Cert.Kernel5Ideal.Proj.out_eq m c, g0, g1, g2, g3, g4]

end Cert.Proj.OutEven
-- ==== Proof.Proj.InEven.Ref.lean ====
/-
  The reference's even input projection read at an index: the prompt rows and the sample rows.
-/
module

public import proofs.«01_k».proof.Proof.Gen.Reference6Ideal.Read
public import proofs.«01_k».proof.Proof.Ffn.Spec
public import Idealize.ShloMosaic.Lib.Pointwise
public import Idealize.ShloMosaic.Lib.Pipeline.ValueKit

@[expose] public section

set_option maxRecDepth 16384

noncomputable section

namespace Cert.Reference6Ideal.Proj

open Cert.Reference6Ideal Cert.Reference6Ideal.Gen Cert.Reference6Ideal.Read Idealize.ShloMosaic Idealize.ShloMosaic.TcCoe Idealize.SL.Sem Cert.Ffn

variable (X : FVec Ideal S12288x2048 .f32) (g : FVec Ideal S2048 .f32) (sh sc : FVec Ideal S8x1x2048 .f32)
variable (w : FVec Ideal S2048x6176 .f32)

/-- The modulated row `i` with the modulation `n`. -/
abbrev hrow (i : Fin 12288) (n : Fin 8) (d : Fin 2048) : EReal :=
  hid (fun k => X (ix2 i k)) (fun k => g (ix1 k)) (fun k => sc (ix3 n 0 k)) (fun k => sh (ix3 n 0 k)) d

/-- The modulated rows of the prompt. -/
theorem v22_at (b : Fin 32) (r : Fin 256) (d : Fin 2048) :
    val_main_v22 (F := Ideal) X g sh sc (ix3 b r d) = hrow X g sh sc ⟨b.val * 256 + r.val, by omega⟩ 0 d := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The modulated rows of the samples. -/
theorem v46_at (b : Fin 2) (r : Fin 2048) (d : Fin 2048) :
    val_main_v46 (F := Ideal) X g sh sc (ix3 b r d)
      = hrow X g sh sc ⟨8192 + (b.val * 2048 + r.val), by omega⟩ ⟨1 + b.val, by omega⟩ d := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_cst_4, val_main_cst_5, val_main_cst_6]
  rfl

/-- A prompt row of the projection. -/
theorem v23_at (b : Fin 32) (r : Fin 256) (j : Fin 6176) :
    val_main_v23 (F := Ideal) X g sh sc w (ix3 b r j)
      = ∑ k, hrow X g sh sc ⟨b.val * 256 + r.val, by omega⟩ 0 k * w (ix2 k j) := by
  pointwise [val_main_v23]
  simp only [v22_at]

/-- A sample row of the projection. -/
theorem v47_at (b : Fin 2) (r : Fin 2048) (j : Fin 6176) :
    val_main_v47 (F := Ideal) X g sh sc w (ix3 b r j)
      = ∑ k, hrow X g sh sc ⟨8192 + (b.val * 2048 + r.val), by omega⟩ ⟨1 + b.val, by omega⟩ k * w (ix2 k j) := by
  pointwise [val_main_v47]
  simp only [v46_at]

/-- The projection at a prompt row. -/
theorem prompt_at (b : Fin 32) (r : Fin 256) (j : Fin 6176) :
    val_main_v50 (F := Ideal) X g sh sc w (ix2 ⟨b.val * 256 + r.val, by omega⟩ j)
      = ∑ k, hrow X g sh sc ⟨b.val * 256 + r.val, by omega⟩ 0 k * w (ix2 k j) := by
  rw [← v23_at]
  pointwise [val_main_v50, val_main_v48]
  exact dif_pos (by omega)

/-- The last rows of the projection are the samples'. -/
theorem tail_at (i : Fin 12288) (h : ¬i.val < 8192) (j : Fin 6176) :
    val_main_v50 (F := Ideal) X g sh sc w (ix2 i j)
      = val_main_v49 (F := Ideal) X g sh sc w (ix2 ⟨i.val - 8192, by omega⟩ j) := by
  pointwise [val_main_v50]
  exact dif_neg h

/-- The samples' rows, flattened. -/
theorem v49_at (b : Fin 2) (r : Fin 2048) (j : Fin 6176) :
    val_main_v49 (F := Ideal) X g sh sc w (ix2 ⟨b.val * 2048 + r.val, by omega⟩ j)
      = val_main_v47 (F := Ideal) X g sh sc w (ix3 b r j) := by
  pointwise [val_main_v49]

/-- The projection at a sample row. -/
theorem sample_at (b : Fin 2) (r : Fin 2048) (j : Fin 6176) :
    val_main_v50 (F := Ideal) X g sh sc w (ix2 ⟨8192 + (b.val * 2048 + r.val), by omega⟩ j)
      = ∑ k, hrow X g sh sc ⟨8192 + (b.val * 2048 + r.val), by omega⟩ ⟨1 + b.val, by omega⟩ k * w (ix2 k j) := by
  rw [← v47_at, ← v49_at, tail_at X g sh sc w _ (Nat.not_lt.mpr (Nat.le_add_right _ _))]
  exact congrArg (fun n => val_main_v49 (F := Ideal) X g sh sc w (ix2 n j)) (Fin.ext (Nat.add_sub_cancel_left _ _))

/-- The projection at any row: the modulation is the row's group's. -/
theorem proj_at (i : Fin 12288) (n : Fin 8) (hn : n.val = (i.val / 512 - 12) / 4) (j : Fin 6176) :
    val_main_v50 (F := Ideal) X g sh sc w (ix2 i j) = ∑ k, hrow X g sh sc i n k * w (ix2 k j) := by
  by_cases h : i.val < 8192
  · have e : i = ⟨(⟨i.val / 256, by omega⟩ : Fin 32).val * 256 + (⟨i.val % 256, by omega⟩ : Fin 256).val, by dsimp only; omega⟩ :=
      Fin.ext (by dsimp only; omega)
    have en : n = 0 := Fin.ext (by rw [hn]; show _ = 0; omega)
    rw [e, en]
    exact prompt_at X g sh sc w _ _ j
  · have e : i = ⟨8192 + ((⟨(i.val - 8192) / 2048, by omega⟩ : Fin 2).val * 2048 + (⟨(i.val - 8192) % 2048, by omega⟩ : Fin 2048).val), by dsimp only; omega⟩ :=
      Fin.ext (by dsimp only; omega)
    have en : n = ⟨1 + (⟨(i.val - 8192) / 2048, by omega⟩ : Fin 2).val, by dsimp only; omega⟩ := Fin.ext (by dsimp only; omega)
    rw [e, en]
    exact sample_at X g sh sc w _ _ j

/-- A column of the weight in the reordered layout, zero after the last. -/
def colw (k : Fin 2048) (q : Fin 6400) : EReal :=
  if h : q.val < 3072 then w (ix2 k ⟨q.val, by omega⟩)
  else if h : q.val < 6144 then w (ix2 k ⟨q.val + 32, by omega⟩)
  else if h : q.val < 6176 then w (ix2 k ⟨q.val - 3072, by omega⟩) else 0

/-- The projected row in the reordered layout, with its zeros. -/
theorem wide_at (i : Fin 12288) (n : Fin 8) (hn : n.val = (i.val / 512 - 12) / 4) (q : Fin 6400) :
    val_main_v55 (F := Ideal) X g sh sc w (ix2 i q) = ∑ k, hrow X g sh sc i n k * colw w k q := by
  by_cases h1 : q.val < 3072
  · have e : val_main_v55 (F := Ideal) X g sh sc w (ix2 i q) = val_main_v50 (F := Ideal) X g sh sc w (ix2 i ⟨q.val, by omega⟩) := by
      pointwise [val_main_v55, val_main_v51, val_main_v52, val_main_v53, val_main_v54, val_main_cst_7]
      blk_point []
      all_goals (exfalso; omega)
    rw [e, proj_at X g sh sc w i n hn]
    simp only [colw, dif_pos h1]
  · by_cases h2 : q.val < 6144
    · have e : val_main_v55 (F := Ideal) X g sh sc w (ix2 i q) = val_main_v50 (F := Ideal) X g sh sc w (ix2 i ⟨q.val + 32, by omega⟩) := by
        pointwise [val_main_v55, val_main_v51, val_main_v52, val_main_v53, val_main_v54, val_main_cst_7]
        blk_point []
        all_goals (exfalso; omega)
      rw [e, proj_at X g sh sc w i n hn]
      simp only [colw, dif_neg h1, dif_pos h2]
    · by_cases h3 : q.val < 6176
      · have e : val_main_v55 (F := Ideal) X g sh sc w (ix2 i q) = val_main_v50 (F := Ideal) X g sh sc w (ix2 i ⟨q.val - 3072, by omega⟩) := by
          pointwise [val_main_v55, val_main_v51, val_main_v52, val_main_v53, val_main_v54, val_main_cst_7]
          blk_point []
          all_goals (exfalso; omega)
        rw [e, proj_at X g sh sc w i n hn]
        simp only [colw, dif_neg h1, dif_neg h2, dif_pos h3]
      · have e : val_main_v55 (F := Ideal) X g sh sc w (ix2 i q) = (0 : EReal) := by
          pointwise [val_main_v55, val_main_v51, val_main_v52, val_main_v53, val_main_v54, val_main_cst_7]
          blk_point []
          all_goals (exfalso; omega)
        rw [e]
        simp only [colw, dif_neg h1, dif_neg h2, dif_neg h3, mul_zero, Finset.sum_const_zero]

/-- The result: column `s * 128 + l` of the wide row. -/
theorem ref_at (s : Fin 50) (i : Fin 12288) (l : Fin 128) (n : Fin 8) (hn : n.val = (i.val / 512 - 12) / 4) :
    val_main_v57 (F := Ideal) X g sh sc w (ix3 s i l)
      = ∑ k, hrow X g sh sc i n k * colw w k ⟨s.val * 128 + l.val, by omega⟩ := by
  rw [← wide_at X g sh sc w i n hn]
  pointwise [val_main_v57, val_main_v56]

end Cert.Reference6Ideal.Proj
-- ==== Proof.Proj.InEven.Final.lean ====
/-
  The even input projection: the scratch of modulated rows, and the written array against the reference's result.
-/
module

public import proofs.«01_k».proof.Proof.Gen.Kernel6Ideal.Frame
public import proofs.«01_k».proof.Proof.Proj.InEven.Ref
public import Idealize.ShloMosaic.Lib.Pipeline.ValueKit
public import Idealize.ShloMosaic.Lib.Pipeline.ReadBack
public import Idealize.ShloMosaic.Lib.Pipeline.Covers
public import Idealize.ShloMosaic.Lib.StableHlo.ReadAt
public import Idealize.ShloMosaic.Lib.Pointwise

@[expose] public section

set_option maxRecDepth 16384

noncomputable section

namespace Cert.Kernel6Ideal.Proj

open Cert.Kernel6Ideal Cert.Kernel6Ideal.Gen Idealize.ShloMosaic Idealize.ShloMosaic.TcCoe Idealize.SL.Sem Cert.Ffn
open Idealize.ShloMosaic.Pipeline (Dat)

/-! ## The payloads -/

/-- The normalised and modulated rows, computed at the first column tile. -/
theorem hid_at (x : Vec Ideal S512x2048 .f32) (g : Vec Ideal S1x2048 .f32) (sc sh : Vec Ideal S1x1x2048 .f32)
    (r : Fin 512) (d : Fin 2048) :
    k0_pay6 x g sc sh (ix2 r d)
      = hid (fun k => x (ix2 r k)) (fun k => g (ix2 0 k)) (fun k => sc (ix3 0 0 k)) (fun k => sh (ix3 0 0 k)) d := by
  pointwise [k0_pay6]
  rfl

/-- The column tile of the projection. -/
theorem mm_at (h : Vec Ideal S512x2048 .bf16) (w : Vec Ideal S2048x1280 .bf16) (r : Fin 512) (j : Fin 1280) :
    k0_pay7 h w (ix2 r j) = ∑ k, h (ix2 r k) * w (ix2 k j) := by
  pointwise [k0_pay7]

/-! ## The blocks -/

/-- The blocks of grid point `t`: row tile `t / 5`, column tile `t % 5`, modulation by the row tile's group. -/
theorem idx_facts : ∀ t : Fin cfg0.N,
    win0_0.index t = ![t.val / 5, 0]
    ∧ win0_1.index t = ![0, 0]
    ∧ win0_2.index t = ![(t.val / 5 - 12) / 4, 0, 0]
    ∧ win0_3.index t = ![(t.val / 5 - 12) / 4, 0, 0]
    ∧ win0_4.index t = ![0, t.val % 5]
    ∧ win0_5.index t = ![t.val % 5, t.val / 5, 0] := (by decide +kernel : ∀ t : Fin grid0.N, _)

variable (m : (ℓ : Loc nD τ sig) → Buf (Elt Ideal) ℓ)

abbrev X (c : Dev nD) : FVec Ideal S12288x2048 .f32 := m ((c : Thread nD τ).loc main_arg0)
abbrev gn (c : Dev nD) : FVec Ideal S2048 .f32 := m ((c : Thread nD τ).loc main_arg1)
abbrev sh (c : Dev nD) : FVec Ideal S8x1x2048 .f32 := m ((c : Thread nD τ).loc main_arg2)
abbrev sc (c : Dev nD) : FVec Ideal S8x1x2048 .f32 := m ((c : Thread nD τ).loc main_arg3)
abbrev wi (c : Dev nD) : FVec Ideal S2048x6176 .f32 := m ((c : Thread nD τ).loc main_arg4)

theorem lt_N (t : Fin cfg0.N) : t.val < 120 := lt_of_lt_of_eq t.isLt N_0

/-- Row `r` of the point's row tile. -/
abbrev rw_ (t : Fin cfg0.N) (r : Fin 512) : Fin 12288 := ⟨t.val / 5 * 512 + r.val, by have := lt_N t; omega⟩
/-- The point's group. -/
abbrev grp (t : Fin cfg0.N) : Fin 8 := ⟨(t.val / 5 - 12) / 4, by have := lt_N t; omega⟩
/-- Column `j` of the point's column tile. -/
abbrev cl (t : Fin cfg0.N) (j : Fin 1280) : Fin 6400 := ⟨t.val % 5 * 1280 + j.val, by omega⟩

theorem gv (c : Dev nD) (d : Fin 2048) : (V m c main_v4 : Vec Ideal S1x2048 .f32) (ix2 0 d) = gn m c (ix1 d) := by
  unfold V
  simp only [hostOps0, hostOps0_1, hostOps0_2, List.flatten_cons, List.flatten_nil, List.append_nil, List.cons_append,
    List.nil_append]
  entry_read
  pointwise

/-- The padding value is zero. -/
theorem zero_lane : (FloatOps.sitofp FTy.f32 0#32 : Ideal FTy.f32) = (0 : EReal) := by
  show (((0#32 : BitVec 32).toInt : ℝ) : EReal) = 0
  simp

/-- The weight that the kernel reads: the given columns, then zeros. -/
theorem wv (c : Dev nD) (k : Fin 2048) (q : Fin 6400) :
    (V m c main_v6 : Vec Ideal S2048x6400 .bf16) (ix2 k q) = Reference6Ideal.Proj.colw (wi m c) k q := by
  unfold V
  simp only [hostOps0, hostOps0_1, hostOps0_2, List.flatten_cons, List.flatten_nil, List.append_nil, List.cons_append,
    List.nil_append]
  after_reads_at
  rw [zero_lane]
  unfold Reference6Ideal.Proj.colw
  by_cases h1 : q.val < 3072
  · rw [dif_pos h1, dif_pos (by omega), dif_pos h1]
    unfold StableHlo.upto
    simp only [List.take_succ_cons, List.take_zero]
    after_reads_at
  · rw [dif_neg h1]
    by_cases h2 : q.val < 6144
    · rw [dif_pos h2, dif_pos (by omega), dif_neg h1, dif_pos (by omega)]
      unfold StableHlo.upto
      simp only [List.take_succ_cons, List.take_zero]
      after_reads_at
      exact congrArg (wi m c) (congrArg (ix2 k) (Fin.ext (by simp only; omega)))
    · rw [dif_neg h2]
      by_cases h3 : q.val < 6176
      · rw [dif_pos h3, dif_pos h3, dif_neg h1, dif_neg (by omega)]
        unfold StableHlo.upto
        simp only [List.take_succ_cons, List.take_zero]
        after_reads_at
        exact congrArg (wi m c) (congrArg (ix2 k) (Fin.ext (by simp only; omega)))
      · rw [dif_neg h3, dif_neg h3]

theorem b0 (c : Dev nD) (t : Fin cfg0.N) (r : Fin 512) (k : Fin 2048) :
    (iblk m c 0 t : Vec Ideal S512x2048 .f32) (ix2 r k) = X m c (ix2 (rw_ t r) k) := by
  blk_ext [iblk, V, idx_facts t]
theorem b1 (c : Dev nD) (t : Fin cfg0.N) (k : Fin 2048) :
    (iblk m c 1 t : Vec Ideal S1x2048 .f32) (ix2 0 k) = gn m c (ix1 k) := by
  rw [← gv]
  blk_ext [iblk, idx_facts t]
theorem b2 (c : Dev nD) (t : Fin cfg0.N) (k : Fin 2048) :
    (iblk m c 2 t : Vec Ideal S1x1x2048 .f32) (ix3 0 0 k) = sc m c (ix3 (grp t) 0 k) := by
  blk_ext [iblk, V, idx_facts t]
theorem b3 (c : Dev nD) (t : Fin cfg0.N) (k : Fin 2048) :
    (iblk m c 3 t : Vec Ideal S1x1x2048 .f32) (ix3 0 0 k) = sh m c (ix3 (grp t) 0 k) := by
  blk_ext [iblk, V, idx_facts t]
theorem b4 (c : Dev nD) (t : Fin cfg0.N) (k : Fin 2048) (j : Fin 1280) :
    (iblk m c 4 t : Vec Ideal S2048x1280 .bf16) (ix2 k j) = Reference6Ideal.Proj.colw (wi m c) k (cl t j) := by
  rw [← wv]
  blk_ext [iblk, idx_facts t]

/-! ## The scratch -/

/-- What the point before `t` left. -/
abbrev prev (c : Dev nD) (t : Fin cfg0.N) := outsAt0 m c (t.val - 1) (Nat.lt_of_le_of_lt (Nat.sub_le _ _) t.isLt)

/-- At the first column tile the scratch holds the modulated rows. -/
theorem hidA (c : Dev nD) (t : Fin cfg0.N) (h0 : t.val % 5 = 0) (y : S512x2048.Idx) :
    (outsAt0 m c t.val t.isLt).2 y = k0_pay6 (iblk m c 0 t) (iblk m c 1 t) (iblk m c 2 t) (iblk m c 3 t) y := by
  rw [outsAt0_A m c t h0]
  dsimp only
  frame_out

/-- At the other tiles it is kept. -/
theorem hidS (c : Dev nD) (t : Fin cfg0.N) (h0 : ¬t.val % 5 = 0) : (outsAt0 m c t.val t.isLt).2 = (prev m c t).2 := by
  rw [outsAt0_B m c t h0]; rfl

/-- The modulated rows, from the arguments. -/
abbrev hrow (c : Dev nD) (i : Fin 12288) (n : Fin 8) (d : Fin 2048) : EReal :=
  Reference6Ideal.Proj.hrow (X m c) (gn m c) (sh m c) (sc m c) i n d

theorem pay_eq (c : Dev nD) (t : Fin cfg0.N) (r : Fin 512) (d : Fin 2048) :
    k0_pay6 (iblk m c 0 t) (iblk m c 1 t) (iblk m c 2 t) (iblk m c 3 t) (ix2 r d) = hrow m c (rw_ t r) (grp t) d := by
  rw [hid_at]
  simp only [b0, b1, b2, b3]

/-- After every point the scratch holds the modulated rows of its row tile. -/
theorem hid_inv (c : Dev nD) (r : Fin 512) (d : Fin 2048) : ∀ (n : ℕ) (t : Fin cfg0.N), t.val = n →
    ((outsAt0 m c t.val t.isLt).2 : Vec Ideal S512x2048 .bf16) (ix2 r d) = hrow m c (rw_ t r) (grp t) d := by
  intro n
  induction n with
  | zero => exact fun t e => (hidA m c t (by omega) _).trans (pay_eq m c t r d)
  | succ n ih =>
    intro t e
    by_cases h0 : t.val % 5 = 0
    · exact (hidA m c t h0 _).trans (pay_eq m c t r d)
    · rw [hidS m c t h0]
      have hl := t.isLt
      have := ih ⟨t.val - 1, by omega⟩ (by dsimp only; omega)
      dsimp only at this
      have e1 : rw_ ⟨t.val - 1, by omega⟩ r = rw_ t r := Fin.ext (by dsimp only; omega)
      have e2 : grp ⟨t.val - 1, by omega⟩ = grp t := Fin.ext (by dsimp only; omega)
      rw [← e1, ← e2]
      exact this

/-! ## The output block -/

/-- Column tile `p` slab by slab: slab `p`, row `r`, lane `l` is column `p * 128 + l`. -/
abbrev pick (a : FVec Ideal S512x1280 .f32) (p : Fin 10) (r : Fin 512) (l : Fin 128) : EReal := a (ix2 r ⟨p.val * 128 + l.val, by omega⟩)

theorem outA (c : Dev nD) (t : Fin cfg0.N) (h0 : t.val % 5 = 0) (y : S10x512x128.Idx) :
    (outsAt0 m c t.val t.isLt).1 y
      = pick (k0_pay7 (F := Ideal) (outsAt0 m c t.val t.isLt).2 (iblk m c 4 t)) (y 0) (y 1) (y 2) := by
  have e : (outsAt0 m c t.val t.isLt).2 = k0_pay6 (iblk m c 0 t) (iblk m c 1 t) (iblk m c 2 t) (iblk m c 3 t) := funext (hidA m c t h0)
  rw [e, outsAt0_A m c t h0]
  dsimp only
  frame_out
  canon_tiles x h
  all_goals (open_payloads; pointwise; blk_ext)

theorem outB (c : Dev nD) (t : Fin cfg0.N) (h0 : ¬t.val % 5 = 0) (y : S10x512x128.Idx) :
    (outsAt0 m c t.val t.isLt).1 y
      = pick (k0_pay7 (F := Ideal) (outsAt0 m c t.val t.isLt).2 (iblk m c 4 t)) (y 0) (y 1) (y 2) := by
  rw [hidS m c t h0, outsAt0_B m c t h0]
  dsimp only
  frame_out
  rw [read_unread_whole]
  canon_tiles x h
  all_goals (open_payloads; pointwise; blk_ext)

/-- The output block after any point. -/
theorem out_at (c : Dev nD) (t : Fin cfg0.N) (p : Fin 10) (r : Fin 512) (l : Fin 128) :
    ((outsAt0 m c t.val t.isLt).1 : Vec Ideal S10x512x128 .f32) (ix3 p r l)
      = ∑ k, hrow m c (rw_ t r) (grp t) k * Reference6Ideal.Proj.colw (wi m c) k (cl t ⟨p.val * 128 + l.val, by omega⟩) := by
  have e : (outsAt0 m c t.val t.isLt).1 (ix3 p r l)
      = pick (k0_pay7 (F := Ideal) (outsAt0 m c t.val t.isLt).2 (iblk m c 4 t)) p r l := by
    by_cases h0 : t.val % 5 = 0
    · exact outA m c t h0 _
    · exact outB m c t h0 _
  rw [e, pick, mm_at]
  simp only [hid_inv m c r _ _ t rfl, b4]

/-- The written array is the reference's result. -/
theorem out_eq (c : Dev nD) : (dats m 0 c).arrAt 5 cfg0.N
    = Reference6Ideal.Read.val_main_v57 (F := Ideal) (X m c) (gn m c) (sh m c) (sc m c) (wi m c) := by
  refine (dats m 0 c).arrAt_eq_of_covers 5 _ (by decide +kernel) fun t hf y => ?_
  blk_simp
  rw [after0_5]
  obtain ⟨p, r, l, rfl⟩ : ∃ (p : Fin 10) (r : Fin 512) (l : Fin 128), y = ix3 p r l := ⟨y 0, y 1, y 2, eq_ix3 y⟩
  rw [out_at]
  have hc : ∀ k, Reference6Ideal.Proj.colw (wi m c) k (cl t ⟨p.val * 128 + l.val, by omega⟩)
      = Reference6Ideal.Proj.colw (wi m c) k ⟨(⟨t.val % 5 * 10 + p.val, by omega⟩ : Fin 50).val * 128 + l.val, by dsimp only; omega⟩ :=
    fun k => congrArg _ (Fin.ext (by dsimp only; omega))
  simp only [hc]
  refine (Reference6Ideal.Proj.ref_at (X m c) (gn m c) (sh m c) (sc m c) (wi m c) ⟨t.val % 5 * 10 + p.val, by omega⟩ (rw_ t r) l (grp t)
    (by dsimp only; omega)).symm.trans ?_
  blk_ext [idx_facts t]

end Cert.Kernel6Ideal.Proj
-- ==== Proof.Proj.InEven.Claims.lean ====
/-
  The claims on the even input projection: the frames, and the equality of the kernel's and the reference's result.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Proj.InEven.Final

@[expose] public section

set_option maxRecDepth 16384

noncomputable section

namespace Cert.Kernel6Ideal.Proj

open Cert.Kernel6Ideal Cert.Kernel6Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v7) = (dats m 0 c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c =>
    ⟨(h c).1 5,
      ((h c).1 0).trans (((dats m 0 c).arrAt_in 0 rfl _).trans <| (A_eq m c 0).trans (V_main_arg0 m c)),
      ((h c).2 main_arg1 (Pipeline.mem_restRefs_of main_arg1 (by decide) (by decide))).trans (V_main_arg1 m c),
      ((h c).1 3).trans (((dats m 0 c).arrAt_in 3 rfl _).trans <| (A_eq m c 3).trans (V_main_arg2 m c)),
      ((h c).1 2).trans (((dats m 0 c).arrAt_in 2 rfl _).trans <| (A_eq m c 2).trans (V_main_arg3 m c)),
      ((h c).2 main_arg4 (Pipeline.mem_restRefs_of main_arg4 (by decide) (by decide))).trans (V_main_arg4 m c)⟩)
    (run_main m ρ)

end Cert.Kernel6Ideal.Proj

namespace Cert.Proj.InEven

open Idealize.ShloMosaic Idealize.ShloMosaic.TcCoe Idealize.SL.Sem

theorem frame_kernel : Cert.quiescent_Kernel6 (hKernel6 := Cert.Kernel6.Gen.facts) := fun m ρ _ => Cert.Kernel6.Gen.frame m ρ
theorem frame_ideal : Cert.quiescent_Kernel6Ideal (hKernel6Ideal := Cert.Kernel6Ideal.Gen.facts) := fun m ρ _ => Cert.Kernel6Ideal.Gen.frame m ρ
theorem frame_ref : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
theorem preserves : Cert.preserves_Kernel6_Kernel6Ideal := trivial

/-- The kernel's result is the reference's. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (Cert.Kernel6Ideal.Gen.dats m 0 c).arrAt 5 Cert.Kernel6Ideal.cfg0.N, Cert.Kernel6Ideal.Proj.ends m ρ, ?_⟩
  refine (θ_run Cert.Reference6Ideal.defs _ _).mono (fun r h c => ?_) (Cert.Reference6Ideal.Value.run (F := Ideal) m' ρ')
  obtain ⟨g0, g1, g2, g3, g4⟩ := hag c
  obtain ⟨h0, hr⟩ := h c
  refine ⟨h0.trans ?_, hr⟩
  dsimp only
  rw [Cert.Reference6Ideal.Read.val_main_v57_eq, Cert.Kernel6Ideal.Proj.out_eq m c, g0, g1, g2, g3, g4]

end Cert.Proj.InEven
-- ==== Proof.Ada.Final.lean ====
/-
  The modulation of the layers: the written array against the reference's result.
-/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Pipeline.Covers
public import Idealize.ShloMosaic.Lib.StableHlo.ReadAt
public import Idealize.ShloMosaic.Lib.Pointwise

@[expose] public section

set_option maxRecDepth 16384

noncomputable section

namespace Cert.Reference7Ideal.Ada

open Cert.Reference7Ideal Cert.Reference7Ideal.Gen Cert.Reference7Ideal.Read Idealize.ShloMosaic Idealize.ShloMosaic.TcCoe Idealize.SL.Sem

/-- Layer `l`'s modulation column `j` of the conditioning vector `b`. -/
abbrev spec (cv : FVec Ideal S8x2048 .f32) (w : FVec Ideal S4x2048x12288 .f32) (bi : FVec Ideal S4x12288 .f32) (l : Fin 4) (b : Fin 8)
    (j : Fin 12288) : EReal :=
  (∑ k, cv (ix2 b k) * Ideal.logistic (cv (ix2 b k)) * w (ix3 l k j)) + bi (ix2 l j)

/-- The reference's result at an index. -/
theorem ref_at (cv : FVec Ideal S8x2048 .f32) (w : FVec Ideal S4x2048x12288 .f32) (bi : FVec Ideal S4x12288 .f32) (l : Fin 4) (b : Fin 8)
    (j : Fin 12288) : val_main_v5 (F := Ideal) cv w bi (ix3 l b j) = spec cv w bi l b j := by
  pointwise [val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  refine congrArg (· + bi (ix2 l j)) (Finset.sum_congr rfl fun k _ => ?_)
  rw [mul_comm]
  rfl

end Cert.Reference7Ideal.Ada

namespace Cert.Kernel7Ideal.Ada

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

abbrev cv (c : Dev nD) : FVec Ideal S8x2048 .f32 := m ((c : Thread nD τ).loc main_arg0)
abbrev wa (c : Dev nD) : FVec Ideal S4x2048x12288 .f32 := m ((c : Thread nD τ).loc main_arg1)
abbrev ba (c : Dev nD) : FVec Ideal S4x12288 .f32 := m ((c : Thread nD τ).loc main_arg2)

theorem lt_N (t : Fin cfg0.N) : t.val < 48 := lt_of_lt_of_eq t.isLt N_0

/-- The point's layer. -/
abbrev la (t : Fin cfg0.N) : Fin 4 := ⟨t.val / 12, by have := lt_N t; omega⟩
/-- Column `j` of the point's column tile. -/
abbrev cl (t : Fin cfg0.N) (j : Fin 1024) : Fin 12288 := ⟨t.val % 12 * 1024 + j.val, by omega⟩

/-- The blocks of grid point `t`: layer `t / 12`, column tile `t % 12`. -/
theorem idx_facts : ∀ t : Fin cfg0.N,
    win0_0.index t = ![0, 0]
    ∧ win0_1.index t = ![t.val / 12, 0, t.val % 12]
    ∧ win0_2.index t = ![t.val / 12, 0, t.val % 12]
    ∧ win0_3.index t = ![t.val / 12, 0, t.val % 12] := (by decide +kernel : ∀ t : Fin grid0.N, _)

/-- The stored block. -/
theorem res_at (v : Vec Ideal S8x2048 .f32) (w : Vec Ideal S1x2048x1024 .f32) (b : Vec Ideal S1x1x1024 .f32) (r : Fin 8) (d : Fin 1024) :
    k0_pay1 v w b (ix3 0 r d)
      = (∑ k, v (ix2 r k) * Ideal.logistic (v (ix2 r k)) * w (ix3 0 k d)) + b (ix3 0 0 d) := by
  pointwise [k0_pay1]

theorem v0 (c : Dev nD) (l : Fin 4) (j : Fin 12288) : (V m c main_v0 : Vec Ideal S4x1x12288 .f32) (ix3 l 0 j) = ba m c (ix2 l j) := by
  entry_read
  pointwise

theorem b0 (c : Dev nD) (t : Fin cfg0.N) (r : Fin 8) (k : Fin 2048) :
    (iblk m c 0 t : Vec Ideal S8x2048 .f32) (ix2 r k) = cv m c (ix2 r k) := by
  blk_ext [iblk, V, idx_facts t]
theorem b1 (c : Dev nD) (t : Fin cfg0.N) (k : Fin 2048) (d : Fin 1024) :
    (iblk m c 1 t : Vec Ideal S1x2048x1024 .f32) (ix3 0 k d) = wa m c (ix3 (la t) k (cl t d)) := by
  blk_ext [iblk, V, idx_facts t]
theorem b2 (c : Dev nD) (t : Fin cfg0.N) (d : Fin 1024) :
    (iblk m c 2 t : Vec Ideal S1x1x1024 .f32) (ix3 0 0 d) = ba m c (ix2 (la t) (cl t d)) := by
  rw [← v0]
  blk_ext [iblk, idx_facts t]

/-- The written array is the reference's result. -/
theorem out_eq (c : Dev nD) : (dats m 0 c).arrAt 3 cfg0.N
    = Reference7Ideal.Read.val_main_v5 (F := Ideal) (cv m c) (wa m c) (ba m c) := by
  refine (dats m 0 c).arrAt_eq_of_covers 3 _ (by decide +kernel) fun t hf y => ?_
  blk_simp
  rw [after0_3]
  frame_out
  obtain ⟨z, r, d, rfl⟩ : ∃ (z : Fin 1) (r : Fin 8) (d : Fin 1024), y = ix3 z r d := ⟨y 0, y 1, y 2, eq_ix3 y⟩
  obtain rfl : z = 0 := Subsingleton.elim _ _
  rw [res_at, b2]
  simp only [b0, b1]
  refine (Reference7Ideal.Ada.ref_at (cv m c) (wa m c) (ba m c) (la t) r (cl t d)).symm.trans ?_
  blk_ext [idx_facts t]

end Cert.Kernel7Ideal.Ada
-- ==== Proof.Ada.Claims.lean ====
/-
  The claims on the modulation of the layers: the frames, and the equality of the kernel's and the reference's result.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Ada.Final

@[expose] public section

set_option maxRecDepth 16384

noncomputable section

namespace Cert.Kernel7Ideal.Ada

open Cert.Kernel7Ideal Cert.Kernel7Ideal.Gen Idealize.ShloMosaic Idealize.ShloMosaic.TcCoe Idealize.SL.Sem

variable (m : (ℓ : Loc nD τ sig) → Buf (Elt Ideal) ℓ) (ρ : Dev nD → PrngReg)

/-- The kernel ends with its output array as the grid left it and every argument as it was. -/
theorem ends : θ_run (defs (F := Ideal)) (onTc (τ := τ) (main (F := Ideal))) ⟨m, fun _ => 0, ρ⟩ (fun r => ∀ c : Dev nD,
    r.2.mem ((c : Thread nD τ).loc main_v1) = (dats m 0 c).arrAt 3 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c =>
    ⟨(h c).1 3,
      ((h c).1 0).trans (((dats m 0 c).arrAt_in 0 rfl _).trans <| (A_eq m c 0).trans (V_main_arg0 m c)),
      ((h c).1 1).trans (((dats m 0 c).arrAt_in 1 rfl _).trans <| (A_eq m c 1).trans (V_main_arg1 m c)),
      ((h c).2 main_arg2 (Pipeline.mem_restRefs_of main_arg2 (by decide) (by decide))).trans (V_main_arg2 m c)⟩)
    (run_main m ρ)

end Cert.Kernel7Ideal.Ada

namespace Cert.Ada

open Idealize.ShloMosaic Idealize.ShloMosaic.TcCoe Idealize.SL.Sem

/-- The kernel ends with its arguments unchanged. -/
theorem frame_kernel : Cert.quiescent_Kernel7 (hKernel7 := Cert.Kernel7.Gen.facts) := fun m ρ _ => Cert.Kernel7.Gen.frame m ρ
/-- So does its idealization. -/
theorem frame_ideal : Cert.quiescent_Kernel7Ideal (hKernel7Ideal := Cert.Kernel7Ideal.Gen.facts) := fun m ρ _ => Cert.Kernel7Ideal.Gen.frame m ρ
/-- So does the reference's. -/
theorem frame_ref : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
/-- No rule was used. -/
theorem preserves : Cert.preserves_Kernel7_Kernel7Ideal := trivial

/-- The kernel's result is the reference's. -/
theorem algebraic : Cert.algebraic_Kernel7Ideal_Reference7Ideal (hKernel7Ideal := Cert.Kernel7Ideal.Gen.facts)
    (hReference7Ideal := Cert.Reference7Ideal.Gen.facts) := by
  intro m ρ m' ρ' _ hag
  refine ⟨fun c => (Cert.Kernel7Ideal.Gen.dats m 0 c).arrAt 3 Cert.Kernel7Ideal.cfg0.N, Cert.Kernel7Ideal.Ada.ends m ρ, ?_⟩
  refine (θ_run Cert.Reference7Ideal.defs _ _).mono (fun r h c => ?_) (Cert.Reference7Ideal.Value.run (F := Ideal) m' ρ')
  obtain ⟨g0, g1, g2⟩ := hag c
  obtain ⟨h0, hr⟩ := h c
  refine ⟨h0.trans ?_, hr⟩
  dsimp only
  rw [Cert.Reference7Ideal.Read.val_main_v5_eq, Cert.Kernel7Ideal.Ada.out_eq m c, g0, g1, g2]

end Cert.Ada
-- ==== Proof.Dec.Spec.lean ====
/-
  The sample attention over the extended reals: the softmax of any number of scores and the rotation of half a head's
  64 entries by a token's row and column.
-/
module

public import proofs.«01_k».proof.Proof.Attn.Spec

@[expose] public section

set_option maxRecDepth 16384

noncomputable section

namespace Cert.Dec

open Idealize.ShloMosaic Idealize.ShloMosaic.WordCmp Cert.Attn

variable {n : Nat}

/-- The greatest of the scores. -/
def most (s : Fin n → EReal) : EReal := Finset.fold max negInf s Finset.univ

/-- It is at least the literal that starts it. -/
theorem max_most (s : Fin n → EReal) : max negInf (most s) = most s := by rw [negInf_eq]; exact bot_sup_eq _

/-- The softmax of the scores, at `t`. -/
def soft (s : Fin n → EReal) (t : Fin n) : EReal :=
  Ideal.div (Ideal.exp (s t - most s)) (∑ u, Ideal.exp (s u - most s))

/-- Of finite scores one is the greatest, so the softmax's denominator is not zero. -/
theorem sum_ne_zero [NeZero n] (s : Fin n → EReal) (hs : ∀ u, ∃ r : ℝ, s u = r) : ∑ u, Ideal.exp (s u - most s) ≠ 0 := by
  have hn : (Finset.univ : Finset (Fin n)).Nonempty := ⟨0, Finset.mem_univ 0⟩
  obtain ⟨u, hu⟩ : ∃ u, most s = s u := by
    obtain ⟨u, -, hu⟩ := Finset.exists_mem_eq_sup' hn s
    refine ⟨u, Eq.trans ?_ hu⟩
    rw [Finset.sup'_eq_sup, most, negInf_eq]; rfl
  obtain ⟨r, hr⟩ := hs u
  have h1 : Ideal.exp (s u - most s) = 1 := by
    rw [hu, hr, ← EReal.coe_sub, sub_self, Ideal.exp_coe, Real.exp_zero]; rfl
  have h2 : (1 : EReal) ≤ ∑ u, Ideal.exp (s u - most s) :=
    h1 ▸ Finset.single_le_sum (f := fun u => Ideal.exp (s u - most s)) (fun i _ => exp_nonneg _) (Finset.mem_univ u)
  intro h0; rw [h0] at h2; exact absurd h2 (by simp)

/-- Of finite scores, the term times the reciprocal of the denominator is the softmax. -/
theorem soft_of_real [NeZero n] (s : Fin n → EReal) (hs : ∀ u, ∃ r : ℝ, s u = r) (t : Fin n) :
    Ideal.exp (s t - most s) * Ideal.div 1 (∑ u, Ideal.exp (s u - most s)) = soft s t :=
  Ideal.mul_one_div (sum_ne_zero s hs)

/-- Entry `p` of quarter `f` of the axis `a`, among 64. -/
abbrev ent (a f : Fin 2) (p : Fin 16) : Fin 64 := ⟨a.val * 32 + f.val * 16 + p.val, by omega⟩

/-- An entry, by its axis, quarter and pair. -/
theorem ent_split (d : Fin 64) : ∃ (a f : Fin 2) (p : Fin 16), d = ent a f p :=
  ⟨⟨d.val / 32, by omega⟩, ⟨d.val % 32 / 16, by omega⟩, ⟨d.val % 16, by omega⟩, Fin.ext (by simp; omega)⟩

/-- The rotation of 64 entries: the pairs of each axis turned by that axis's angles. -/
def rot (x : Fin 64 → EReal) (C S : Fin 2 → Fin 16 → EReal) (d : Fin 64) : EReal :=
  if d.val % 32 < 16 then
    x d * C ⟨d.val / 32, by omega⟩ ⟨d.val % 16, by omega⟩
      - x ⟨(d.val + 16) % 64, by omega⟩ * S ⟨d.val / 32, by omega⟩ ⟨d.val % 16, by omega⟩
  else
    x d * C ⟨d.val / 32, by omega⟩ ⟨d.val % 16, by omega⟩
      + x ⟨(d.val + 48) % 64, by omega⟩ * S ⟨d.val / 32, by omega⟩ ⟨d.val % 16, by omega⟩

theorem rot_lo (x : Fin 64 → EReal) (C S : Fin 2 → Fin 16 → EReal) (a : Fin 2) (p : Fin 16) :
    rot x C S (ent a 0 p) = x (ent a 0 p) * C a p - x (ent a 1 p) * S a p := by
  have h : (ent a 0 p).val % 32 < 16 := by simp; omega
  rw [rot, if_pos h]
  have e1 : (⟨(ent a 0 p).val / 32, by omega⟩ : Fin 2) = a := Fin.ext (by simp; omega)
  have e2 : (⟨(ent a 0 p).val % 16, by omega⟩ : Fin 16) = p := Fin.ext (by simp; omega)
  have e3 : (⟨((ent a 0 p).val + 16) % 64, by omega⟩ : Fin 64) = ent a 1 p := Fin.ext (by simp; omega)
  rw [e1, e2, e3]

theorem rot_hi (x : Fin 64 → EReal) (C S : Fin 2 → Fin 16 → EReal) (a : Fin 2) (p : Fin 16) :
    rot x C S (ent a 1 p) = x (ent a 1 p) * C a p + x (ent a 0 p) * S a p := by
  have h : ¬ (ent a 1 p).val % 32 < 16 := by simp; omega
  rw [rot, if_neg h]
  have e1 : (⟨(ent a 1 p).val / 32, by omega⟩ : Fin 2) = a := Fin.ext (by simp; omega)
  have e2 : (⟨(ent a 1 p).val % 16, by omega⟩ : Fin 16) = p := Fin.ext (by simp; omega)
  have e3 : (⟨((ent a 1 p).val + 48) % 64, by omega⟩ : Fin 64) = ent a 0 p := Fin.ext (by simp; omega)
  rw [e1, e2, e3]

/-- Finite entries stay finite under a finite rotation. -/
theorem rot_real (x : Fin 64 → EReal) (C S : Fin 2 → Fin 16 → EReal) (hx : ∀ d, ∃ r : ℝ, x d = r)
    (hC : ∀ a p, ∃ r : ℝ, C a p = r) (hS : ∀ a p, ∃ r : ℝ, S a p = r) (d : Fin 64) : ∃ r : ℝ, rot x C S d = r := by
  choose x' hx using hx
  choose C' hC using hC
  choose S' hS using hS
  unfold rot
  simp only [hx, hC, hS]
  split
  · exact ⟨_, by rw [← EReal.coe_mul, ← EReal.coe_mul, ← EReal.coe_sub]⟩
  · exact ⟨_, by rw [← EReal.coe_mul, ← EReal.coe_mul, ← EReal.coe_add]⟩

/-- Token `r`'s row (axis 0) or column (axis 1) in the grid of 64 columns. -/
def place (a : Fin 2) (r : Fin 2048) : Nat := if a.val = 0 then r.val / 64 else r.val % 64

/-- The angle of pair `p` of token `r` on the axis `a`. -/
def ang (a : Fin 2) (r : Fin 2048) (p : Fin 16) : EReal :=
  FloatOps.sitofp (F := Ideal) FTy.f32 (BitVec.ofNat 32 (place a r))
    * Ideal.pow (Ideal.ofBits FTy.f32 1176256512#32)
      (Ideal.div (-FloatOps.sitofp (F := Ideal) FTy.f32 (BitVec.ofNat 32 p.val)) (Ideal.ofBits FTy.f32 1098907648#32))

/-- It is finite. -/
theorem ang_real (a : Fin 2) (r : Fin 2048) (p : Fin 16) : ∃ z : ℝ, ang a r p = z := by
  have h1 : Ideal.ofBits FTy.f32 1176256512#32 = ((10000 : ℝ) : EReal) := by
    simp [Ideal.ofBits, Ideal.ieee]; norm_cast; norm_num
  have h2 : Ideal.ofBits FTy.f32 1098907648#32 = ((16 : ℝ) : EReal) := by
    simp [Ideal.ofBits, Ideal.ieee]; norm_cast; norm_num
  have h3 : ∀ b : BitVec 32, FloatOps.sitofp (F := Ideal) FTy.f32 b = (((b.toInt : ℤ) : ℝ) : EReal) := fun b => rfl
  unfold ang
  rw [h1, h2, h3, h3, ← EReal.coe_neg, Ideal.div_coe (by norm_num), ← EReal.coe_mul, Ideal.pow_coe_coe, ← EReal.coe_mul]
  exact ⟨_, rfl⟩

/-- So are its cosine and its sine. -/
theorem cos_real (a : Fin 2) (r : Fin 2048) (p : Fin 16) : ∃ z : ℝ, Ideal.cos (ang a r p) = z := by
  obtain ⟨z, hz⟩ := ang_real a r p
  exact ⟨Real.cos z, by rw [hz]; rfl⟩
theorem sin_real (a : Fin 2) (r : Fin 2048) (p : Fin 16) : ∃ z : ℝ, Ideal.sin (ang a r p) = z := by
  obtain ⟨z, hz⟩ := ang_real a r p
  exact ⟨Real.sin z, by rw [hz]; rfl⟩

end Cert.Dec
-- ==== Proof.Dec.Block.lean ====
/-
  What one grid point of the sample attention stores, read at an index: the rotated keys and queries, the weights and
  the normalised output.
-/
module

public import proofs.«01_k».proof.Proof.Gen.Kernel8Ideal.Skeleton
public import proofs.«01_k».proof.Proof.Dec.Spec
public import Idealize.ShloMosaic.Lib.Pointwise
public import Idealize.ShloMosaic.Lib.Pipeline.ValueKit

@[expose] public section

set_option maxRecDepth 16384

noncomputable section

namespace Cert.Kernel8Ideal.Dec

open Cert.Kernel8Ideal Cert.Kernel8Ideal.Gen Idealize.ShloMosaic Idealize.ShloMosaic.TcCoe Idealize.SL.Sem Idealize.ShloMosaic.WordCmp Cert.Attn Cert.Dec

/-- The kernel's mask of the lanes whose partner is the one 16 further. -/
def first (l : Fin 128) : BitVec 1 :=
  IntOp.cmpi CmpIPredicate.slt
    (Scalar.select
      (IntOp.andi
        (IntOp.xori
          (IntOp.cmpi CmpIPredicate.slt
            (IntOp.remsi ArithUnit.vector (BitVec.ofNat 32 l.val)
              (Scalar.select (Scalar.cmpi CmpIPredicate.eq 32#32 0#32) 1#32 32#32))
            0#32)
          (Scalar.cmpi CmpIPredicate.slt (Scalar.select (Scalar.cmpi CmpIPredicate.eq 32#32 0#32) 1#32 32#32)
            0#32))
        (IntOp.cmpi CmpIPredicate.ne
          (IntOp.remsi ArithUnit.vector (BitVec.ofNat 32 l.val)
            (Scalar.select (Scalar.cmpi CmpIPredicate.eq 32#32 0#32) 1#32 32#32))
          0#32))
      (IntOp.addi
        (IntOp.remsi ArithUnit.vector (BitVec.ofNat 32 l.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val)
        (Scalar.select (Scalar.cmpi CmpIPredicate.eq 32#32 0#32) 1#32 32#32)))
    16#32

theorem first_eq : ∀ l : Fin 128, first l = if l.val % 32 < 16 then 1#1 else 0#1 := by decide +kernel

/-- A row of lanes, each turned with its partner. -/
def turned (y C S : Fin 128 → EReal) (l : Fin 128) : EReal :=
  y l * C l + Scalar.select (first l) (y ⟨(l.val + 128 - 112) % 128, by omega⟩) (y ⟨(l.val + 128 - 16) % 128, by omega⟩) * S l

/-- With the tables' signs the turned row is the rotation of each half. -/
theorem turned_eq (y C S : Fin 128 → EReal) (n : Fin 2 → Fin 64 → EReal) (cs sn : Fin 2 → Fin 16 → EReal)
    (hy : ∀ c d, y (lane c d) = n c d) (hC : ∀ c a f p, C (lane c (ent a f p)) = cs a p)
    (h0 : ∀ c a p, S (lane c (ent a 0 p)) = -sn a p) (h1 : ∀ c a p, S (lane c (ent a 1 p)) = sn a p)
    (c : Fin 2) (d : Fin 64) : turned y C S (lane c d) = rot (n c) cs sn d := by
  obtain ⟨a, f, p, rfl⟩ := ent_split d
  match f with
  | 0 =>
    rw [rot_lo, turned, first_eq, if_pos (by simp; omega), select_one, hy, hC, h0]
    have e : (⟨((lane c (ent a 0 p)).val + 128 - 112) % 128, by omega⟩ : Fin 128) = lane c (ent a 1 p) := Fin.ext (by simp; omega)
    rw [e, hy, mul_neg, ← sub_eq_add_neg]
  | 1 =>
    rw [rot_hi, turned, first_eq, if_neg (by simp; omega), select_zero, hy, hC, h1]
    have e : (⟨((lane c (ent a 1 p)).val + 128 - 16) % 128, by omega⟩ : Fin 128) = lane c (ent a 0 p) := Fin.ext (by simp; omega)
    rw [e, hy]

/-- The rotated queries. -/
theorem rotq_at (y C S : FVec Ideal S256x128 .f32) (r : Fin 256) (l : Fin 128) :
    k0_pay13 y C S (ix2 r l) = turned (fun l => y (ix2 r l)) (fun l => C (ix2 r l)) (fun l => S (ix2 r l)) l := by
  pointwise [k0_pay13]
  rfl

/-- The normalised queries. -/
theorem queries_at (x : Vec Ideal S1x256x128 .f32) (w : Vec Ideal S1x128 .f32) (g : Fin 64 → EReal)
    (hg : ∀ (c : Fin 2) (d : Fin 64), w (ix2 0 (lane c d)) = g d) (r : Fin 256) (c : Fin 2) (d : Fin 64) :
    k0_pay12 x w (ix2 r (lane c d)) = nrm (fun e => x (ix3 0 r (lane c e))) g d := by
  pointwise [k0_pay12]
  rw [sum_lo fun l => x (ix3 0 r l) * x (ix3 0 r l), sum_hi fun l => x (ix3 0 r l) * x (ix3 0 r l), hg, mul_inv64,
    mul_inv64]
  match c with
  | 0 => rw [mask_lo]; rfl
  | 1 => rw [mask_hi]; rfl

/-- A row of keys, each half normalised by its own root mean square. -/
def keyn (x : Fin 128 → EReal) (w : Fin 128 → EReal) (l : Fin 128) : EReal :=
  x l * Scalar.select (IntOp.cmpi .slt (BitVec.ofNat 32 l.val) 64#32)
    (Ideal.rsqrt ((∑ k : Fin 128, Scalar.select (IntOp.cmpi .slt (BitVec.ofNat 32 k.val) 64#32) (x k * x k) 0) * inv64 + eps))
    (Ideal.rsqrt ((∑ k : Fin 128, Scalar.select (IntOp.cmpi .slt (BitVec.ofNat 32 k.val) 64#32) 0 (x k * x k)) * inv64 + eps)) * w l

theorem keyn_eq (x w : Fin 128 → EReal) (g : Fin 64 → EReal) (hg : ∀ (c : Fin 2) (d : Fin 64), w (lane c d) = g d)
    (c : Fin 2) (d : Fin 64) : keyn x w (lane c d) = nrm (fun e => x (lane c e)) g d := by
  rw [keyn, sum_lo fun l => x l * x l, sum_hi fun l => x l * x l, hg, mul_inv64, mul_inv64]
  match c with
  | 0 => rw [mask_lo]; rfl
  | 1 => rw [mask_hi]; rfl

/-- The stored keys. -/
theorem keys_at (x : Vec Ideal S1x2048x128 .f32) (w : Vec Ideal S1x128 .f32) (C S : Vec Ideal S2048x128 .f32) (r : Fin 2048) (l : Fin 128) :
    k0_pay10 (k0_pay4 x) (k0_pay5 w) k0_pay6 (k0_pay8 x) (k0_pay9 x) C S (ix2 r l)
      = turned (keyn (fun l => x (ix3 0 r l)) fun l => w (ix2 0 l)) (fun l => C (ix2 r l)) (fun l => S (ix2 r l)) l := by
  pointwise [k0_pay10, k0_pay4, k0_pay5, k0_pay6, k0_pay8, k0_pay9, k0_pay7]
  rfl

theorem cachek_at (x : Vec Ideal S1x256x128 .f32) (r : Fin 256) (l : Fin 128) : k0_pay2 x (ix2 r l) = x (ix3 0 r l) := by
  pointwise [k0_pay2]
theorem cachev_at (x : Vec Ideal S1x256x128 .f32) (r : Fin 256) (l : Fin 128) : k0_pay3 x (ix2 r l) = x (ix3 0 r l) := by
  pointwise [k0_pay3]
theorem values_at (x : Vec Ideal S1x2048x128 .f32) (r : Fin 2048) (l : Fin 128) : k0_pay11 x (ix2 r l) = x (ix3 0 r l) := by
  pointwise [k0_pay11]
theorem gain_at (w : Vec Ideal S1x128 .f32) (l : Fin 128) : k0_pay16 w (ix2 0 l) = w (ix2 0 l) := by
  pointwise [k0_pay16]

/-- The weight of the second softmax. -/
theorem lam_at (p : Vec Ideal S4x64 .f32) : k0_pay14 p (ix2 0 0) + k0_pay15 (F := Ideal) (ix2 0 0)
    = lamOf (fun i => p (ix2 0 i)) (fun i => p (ix2 1 i)) (fun i => p (ix2 2 i)) fun i => p (ix2 3 i) := by
  pointwise [k0_pay14, k0_pay15]
  rfl

/-- The weights, of finite scores. -/
theorem w_at (q : FVec Ideal S256x128 .f32) (a b : FVec Ideal S1x1 .f32) (k : Vec Ideal S2304x128 .bf16) (r : Fin 256)
    (Q : Fin 2 → Fin 64 → EReal) (K : Fin 2304 → Fin 2 → Fin 64 → EReal) (hQ : ∀ c d, q (ix2 r (lane c d)) = Q c d)
    (hK : ∀ t c d, k (ix2 t (lane c d)) = K t c d) (hs : ∀ c t, ∃ z : ℝ, score (Q c) (K t c) = z) (t : Fin 2304) :
    k0_pay17 q a b k (ix2 r t) = soft (fun u => score (Q 0) (K u 0)) t
      - (a (ix2 0 0) + b (ix2 0 0)) * soft (fun u => score (Q 1) (K u 1)) t := by
  have e0 : ∀ t : Fin 2304, (∑ l : Fin 128, Scalar.select (IntOp.cmpi .slt (BitVec.ofNat 32 l.val) 64#32)
      (q (ix2 r l) * Ideal.ofBits FTy.f32 1040187392#32 * k (ix2 t l)) 0) = score (Q 0) (K t 0) := fun t => by
    rw [sum_lo fun l => q (ix2 r l) * Ideal.ofBits FTy.f32 1040187392#32 * k (ix2 t l)]
    simp only [hQ, hK]
    exact score_eq _ _
  have e1 : ∀ t : Fin 2304, (∑ l : Fin 128, Scalar.select (IntOp.cmpi .slt (BitVec.ofNat 32 l.val) 64#32) 0
      (q (ix2 r l) * Ideal.ofBits FTy.f32 1040187392#32 * k (ix2 t l))) = score (Q 1) (K t 1) := fun t => by
    rw [sum_hi fun l => q (ix2 r l) * Ideal.ofBits FTy.f32 1040187392#32 * k (ix2 t l)]
    simp only [hQ, hK]
    exact score_eq _ _
  pointwise [k0_pay17]
  simp only [e0, e1]
  refine congrArg₂ (fun x y : EReal => x - y) ?_ (congrArg (fun x : EReal => (a (ix2 0 0) + b (ix2 0 0)) * x) ?_)
  · exact soft_of_real (fun u => score (Q 0) (K u 0)) (hs 0) t
  · exact soft_of_real (fun u => score (Q 1) (K u 1)) (hs 1) t

/-- The stored output. -/
theorem out_at (g : FVec Ideal S1x128 .f32) (w : FVec Ideal S256x2304 .bf16) (v : Vec Ideal S2304x128 .bf16) (r : Fin 256) (l : Fin 128) :
    k0_pay1 g w v (ix2 r l) = outn (fun j => ∑ t, w (ix2 r t) * v (ix2 t j)) (fun j => g (ix2 0 j)) l := by
  pointwise [k0_pay1]
  rfl

end Cert.Kernel8Ideal.Dec
-- ==== Proof.Dec.Acc.lean ====
/-
  What the sample attention's grid points leave in the two scratch arrays and the output block.
-/
module

public import proofs.«01_k».proof.Proof.Gen.Kernel8Ideal.Frame
public import proofs.«01_k».proof.Proof.Dec.Block
public import Idealize.ShloMosaic.Lib.Pipeline.ValueKit
public import Idealize.ShloMosaic.Lib.Pipeline.ReadBack
public import Idealize.ShloMosaic.Lib.Pipeline.Covers
public import Idealize.ShloMosaic.Lib.Pointwise

@[expose] public section

set_option maxRecDepth 16384

noncomputable section

namespace Cert.Kernel8Ideal.Dec

open Cert.Kernel8Ideal Cert.Kernel8Ideal.Gen Idealize.ShloMosaic Idealize.ShloMosaic.TcCoe Idealize.SL.Sem Cert.Attn Cert.Dec
open Idealize.ShloMosaic.Pipeline (Dat)

variable (m : (ℓ : Loc nD τ sig) → Buf (Elt Ideal) ℓ)

/-- What the point before `t` left. -/
abbrev prev (c : Dev nD) (t : Fin cfg0.N) := outsAt0 m c (t.val - 1) (Nat.lt_of_le_of_lt (Nat.sub_le _ _) t.isLt)

/-- The two stores fill the scratch. -/
theorem both_cover (p : S2048x128.Idx → Elt Ideal .bf16) (q : S256x128.Idx → Elt Ideal .bf16) (y : S2304x128.Idx) :
    ∃ pc ∈ ([⟨Rect.unit ![256, 0] ![2048, 128] inb_S2304x128_S2048x128_256_0, p⟩, ⟨Rect.unit ![0, 0] ![256, 128] inb_S2304x128_S256x128_0_0, q⟩]
      : List (View.Piece (Elt Ideal) S2304x128 .bf16)), y ∈ pc.1.set :=
  View.cover_of_tiledBy _ ![256, 128] (by sl_kernel_rfl) y

/-- At a head's first query tile the key scratch takes the cached keys, then the sample's. -/
theorem keyA_lo (c : Dev nD) (t : Fin cfg0.N) (h0 : t.val % 8 = 0) (u : Fin 256) (l : Fin 128) :
    (outsAt0 m c t.val t.isLt).2.1 (ix2 ⟨u.val, by omega⟩ l) = k0_pay2 (iblk m c 4 t) (ix2 u l) := by
  rw [outsAt0_A m c t h0]
  dsimp only
  frame_out
  have hu := u.isLt
  canon_tiles x h using both_cover _ _ _
  · exfalso; simp at h0; omega
  · exact congrArg _ ((eq_ix2 x).trans (congr (congrArg ix2 (Fin.ext (by simp at h0; omega))) (Fin.ext (by simp at h1; omega))))
theorem keyA_hi (c : Dev nD) (t : Fin cfg0.N) (h0 : t.val % 8 = 0) (u : Fin 2048) (l : Fin 128) :
    (outsAt0 m c t.val t.isLt).2.1 (ix2 ⟨256 + u.val, by omega⟩ l)
      = k0_pay10 (k0_pay4 (iblk m c 2 t)) (k0_pay5 (iblk m c 7 t)) k0_pay6 (k0_pay8 (iblk m c 2 t)) (k0_pay9 (iblk m c 2 t))
        (iblk m c 11 t) (iblk m c 12 t) (ix2 u l) := by
  rw [outsAt0_A m c t h0]
  dsimp only
  frame_out
  have hu := u.isLt
  canon_tiles x h using both_cover _ _ _
  · exact congrArg _ ((eq_ix2 x).trans (congr (congrArg ix2 (Fin.ext (by simp at h0; omega))) (Fin.ext (by simp at h1; omega))))
  · exfalso; simp at h0; omega

/-- So does the value scratch. -/
theorem valA_lo (c : Dev nD) (t : Fin cfg0.N) (h0 : t.val % 8 = 0) (u : Fin 256) (l : Fin 128) :
    (outsAt0 m c t.val t.isLt).2.2 (ix2 ⟨u.val, by omega⟩ l) = k0_pay3 (iblk m c 5 t) (ix2 u l) := by
  rw [outsAt0_A m c t h0]
  dsimp only
  frame_out
  have hu := u.isLt
  canon_tiles x h using both_cover _ _ _
  · exfalso; simp at h0; omega
  · exact congrArg _ ((eq_ix2 x).trans (congr (congrArg ix2 (Fin.ext (by simp at h0; omega))) (Fin.ext (by simp at h1; omega))))
theorem valA_hi (c : Dev nD) (t : Fin cfg0.N) (h0 : t.val % 8 = 0) (u : Fin 2048) (l : Fin 128) :
    (outsAt0 m c t.val t.isLt).2.2 (ix2 ⟨256 + u.val, by omega⟩ l) = k0_pay11 (iblk m c 3 t) (ix2 u l) := by
  rw [outsAt0_A m c t h0]
  dsimp only
  frame_out
  have hu := u.isLt
  canon_tiles x h using both_cover _ _ _
  · exact congrArg _ ((eq_ix2 x).trans (congr (congrArg ix2 (Fin.ext (by simp at h0; omega))) (Fin.ext (by simp at h1; omega))))
  · exfalso; simp at h0; omega

/-- A load of the whole scratch reads what the stores left in it. -/
theorem readWhole (v : View sig .tc .vmem S2304x128 .bf16) (L : List (View.Piece (Elt Ideal) S2304x128 .bf16)) :
    v.readCov L (Rect.unit ![0, 0] ![2304, 128] inb_S2304x128_S2304x128_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- At the other tiles the scratch is kept. -/
theorem keyS (c : Dev nD) (t : Fin cfg0.N) (h0 : ¬t.val % 8 = 0) :
    (outsAt0 m c t.val t.isLt).2.1 = (prev m c t).2.1 := by
  rw [outsAt0_B m c t h0]; rfl
theorem valS (c : Dev nD) (t : Fin cfg0.N) (h0 : ¬t.val % 8 = 0) :
    (outsAt0 m c t.val t.isLt).2.2 = (prev m c t).2.2 := by
  rw [outsAt0_B m c t h0]; rfl

theorem outB (c : Dev nD) (t : Fin cfg0.N) (h0 : ¬t.val % 8 = 0) (y : S256x128.Idx) :
    (outsAt0 m c t.val t.isLt).1 y = k0_pay1 (k0_pay16 (iblk m c 8 t)) (k0_pay17 (k0_pay13 (k0_pay12 (iblk m c 1 t) (iblk m c 6 t)) (iblk m c 9 t) (iblk m c 10 t)) (k0_pay14 (iblk m c 0 t)) (k0_pay15 (F := Ideal)) (prev m c t).2.1) (prev m c t).2.2 y := by
  rw [outsAt0_B m c t h0]
  dsimp only
  frame_out
  rw [read_unread_whole, read_unread_whole]

theorem outA (c : Dev nD) (t : Fin cfg0.N) (h0 : t.val % 8 = 0) (y : S256x128.Idx) :
    (outsAt0 m c t.val t.isLt).1 y = k0_pay1 (k0_pay16 (iblk m c 8 t)) (k0_pay17 (k0_pay13 (k0_pay12 (iblk m c 1 t) (iblk m c 6 t)) (iblk m c 9 t) (iblk m c 10 t)) (k0_pay14 (iblk m c 0 t)) (k0_pay15 (F := Ideal)) (outsAt0 m c t.val t.isLt).2.1) (outsAt0 m c t.val t.isLt).2.2 y := by
  rw [outsAt0_A m c t h0]
  dsimp only
  frame_out
  rw [readWhole, readWhole]

/-- The output block, by what the scratch holds after the point. -/
theorem out_eq (c : Dev nD) (t : Fin cfg0.N) (y : S256x128.Idx) :
    (outsAt0 m c t.val t.isLt).1 y = k0_pay1 (k0_pay16 (iblk m c 8 t)) (k0_pay17 (k0_pay13 (k0_pay12 (iblk m c 1 t) (iblk m c 6 t)) (iblk m c 9 t) (iblk m c 10 t)) (k0_pay14 (iblk m c 0 t)) (k0_pay15 (F := Ideal)) (outsAt0 m c t.val t.isLt).2.1) (outsAt0 m c t.val t.isLt).2.2 y := by
  by_cases h0 : t.val % 8 = 0
  · exact outA m c t h0 y
  · rw [outB m c t h0, keyS m c t h0, valS m c t h0]

end Cert.Kernel8Ideal.Dec
-- ==== Proof.Dec.Host.lean ====
/-
  The operands that the sample attention's host code prepares, read at an index.
-/
module

public import proofs.«01_k».proof.Proof.Gen.Kernel8Ideal.Frame
public import proofs.«01_k».proof.Proof.Dec.Spec
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel8Ideal.Dec

open Cert.Kernel8Ideal Cert.Kernel8Ideal.Gen Idealize.ShloMosaic Idealize.ShloMosaic.TcCoe Idealize.SL.Sem Cert.Attn Cert.Dec

variable (m : (ℓ : Loc nD τ sig) → Buf (Elt Ideal) ℓ)

theorem u26 (c : Dev nD) (r : Fin 2048) (p : Fin 16) :
    (StableHlo.upto hostOps0 (fun b => m (c, b)) 35 (Proc.tc.devRef main_v26) : Vec Ideal S2048x16 .f32) (ix2 r p) = Ideal.cos (ang 0 r p) := by
  unfold StableHlo.upto
  simp only [List.take_succ_cons, List.take_zero]
  after_reads_at
  pointwise
  try (after_reads_at; pointwise)
  rfl
theorem u28 (c : Dev nD) (r : Fin 2048) (p : Fin 16) :
    (StableHlo.upto hostOps0 (fun b => m (c, b)) 35 (Proc.tc.devRef main_v28) : Vec Ideal S2048x16 .f32) (ix2 r p) = Ideal.cos (ang 0 r p) := by
  unfold StableHlo.upto
  simp only [List.take_succ_cons, List.take_zero]
  after_reads_at
  pointwise
  try (after_reads_at; pointwise)
  rfl
theorem u30 (c : Dev nD) (r : Fin 2048) (p : Fin 16) :
    (StableHlo.upto hostOps0 (fun b => m (c, b)) 35 (Proc.tc.devRef main_v30) : Vec Ideal S2048x16 .f32) (ix2 r p) = Ideal.cos (ang 1 r p) := by
  unfold StableHlo.upto
  simp only [List.take_succ_cons, List.take_zero]
  after_reads_at
  pointwise
  try (after_reads_at; pointwise)
  rfl
theorem u32 (c : Dev nD) (r : Fin 2048) (p : Fin 16) :
    (StableHlo.upto hostOps0 (fun b => m (c, b)) 35 (Proc.tc.devRef main_v32) : Vec Ideal S2048x16 .f32) (ix2 r p) = Ideal.cos (ang 1 r p) := by
  unfold StableHlo.upto
  simp only [List.take_succ_cons, List.take_zero]
  after_reads_at
  pointwise
  try (after_reads_at; pointwise)
  rfl
theorem u36 (c : Dev nD) (r : Fin 2048) (p : Fin 16) :
    (StableHlo.upto hostOps0 (fun b => m (c, b)) 46 (Proc.tc.devRef main_v36) : Vec Ideal S2048x16 .f32) (ix2 r p) = -Ideal.sin (ang 0 r p) := by
  unfold StableHlo.upto
  simp only [List.take_succ_cons, List.take_zero]
  after_reads_at
  pointwise
  try (after_reads_at; pointwise)
  rfl
theorem u38 (c : Dev nD) (r : Fin 2048) (p : Fin 16) :
    (StableHlo.upto hostOps0 (fun b => m (c, b)) 46 (Proc.tc.devRef main_v38) : Vec Ideal S2048x16 .f32) (ix2 r p) = Ideal.sin (ang 0 r p) := by
  unfold StableHlo.upto
  simp only [List.take_succ_cons, List.take_zero]
  after_reads_at
  pointwise
  try (after_reads_at; pointwise)
  rfl
theorem u41 (c : Dev nD) (r : Fin 2048) (p : Fin 16) :
    (StableHlo.upto hostOps0 (fun b => m (c, b)) 46 (Proc.tc.devRef main_v41) : Vec Ideal S2048x16 .f32) (ix2 r p) = -Ideal.sin (ang 1 r p) := by
  unfold StableHlo.upto
  simp only [List.take_succ_cons, List.take_zero]
  after_reads_at
  pointwise
  try (after_reads_at; pointwise)
  rfl
theorem u43 (c : Dev nD) (r : Fin 2048) (p : Fin 16) :
    (StableHlo.upto hostOps0 (fun b => m (c, b)) 46 (Proc.tc.devRef main_v43) : Vec Ideal S2048x16 .f32) (ix2 r p) = Ideal.sin (ang 1 r p) := by
  unfold StableHlo.upto
  simp only [List.take_succ_cons, List.take_zero]
  after_reads_at
  pointwise
  try (after_reads_at; pointwise)
  rfl

theorem at_pair (f : S2048x16.Idx → EReal) (r : Fin 2048) (i : Nat) (hi : i < 16) (p : Fin 16) (h : i = p.val) :
    f (ix2 r ⟨i, hi⟩) = f (ix2 r p) := by subst h; rfl

theorem ct00 (c : Dev nD) (r : Fin 2048) (k : Fin 2) (p : Fin 16) :
    (V m c main_v47 : Vec Ideal S2048x128 .f32) (ix2 r (lane k (ent 0 0 p))) = Ideal.cos (ang 0 r p) := by
  unfold V
  after_reads_at
  pointwise
  rw [dif_pos (by simp; omega)]
  exact (at_pair _ r _ _ p (by simp; omega)).trans (u26 m c r p)
theorem ct01 (c : Dev nD) (r : Fin 2048) (k : Fin 2) (p : Fin 16) :
    (V m c main_v47 : Vec Ideal S2048x128 .f32) (ix2 r (lane k (ent 0 1 p))) = Ideal.cos (ang 0 r p) := by
  unfold V
  after_reads_at
  pointwise
  rw [dif_neg (by simp; omega), dif_pos (by simp; omega)]
  exact (at_pair _ r _ _ p (by simp; omega)).trans (u28 m c r p)
theorem ct10 (c : Dev nD) (r : Fin 2048) (k : Fin 2) (p : Fin 16) :
    (V m c main_v47 : Vec Ideal S2048x128 .f32) (ix2 r (lane k (ent 1 0 p))) = Ideal.cos (ang 1 r p) := by
  unfold V
  after_reads_at
  pointwise
  rw [dif_neg (by simp; omega), dif_neg (by simp; omega), dif_pos (by simp; omega)]
  exact (at_pair _ r _ _ p (by simp; omega)).trans (u30 m c r p)
theorem ct11 (c : Dev nD) (r : Fin 2048) (k : Fin 2) (p : Fin 16) :
    (V m c main_v47 : Vec Ideal S2048x128 .f32) (ix2 r (lane k (ent 1 1 p))) = Ideal.cos (ang 1 r p) := by
  unfold V
  after_reads_at
  pointwise
  rw [dif_neg (by simp; omega), dif_neg (by simp; omega), dif_neg (by simp; omega)]
  exact (at_pair _ r _ _ p (by simp; omega)).trans (u32 m c r p)
theorem st00 (c : Dev nD) (r : Fin 2048) (k : Fin 2) (p : Fin 16) :
    (V m c main_v50 : Vec Ideal S2048x128 .f32) (ix2 r (lane k (ent 0 0 p))) = -Ideal.sin (ang 0 r p) := by
  unfold V
  after_reads_at
  pointwise
  rw [dif_pos (by simp; omega)]
  exact (at_pair _ r _ _ p (by simp; omega)).trans (u36 m c r p)
theorem st01 (c : Dev nD) (r : Fin 2048) (k : Fin 2) (p : Fin 16) :
    (V m c main_v50 : Vec Ideal S2048x128 .f32) (ix2 r (lane k (ent 0 1 p))) = Ideal.sin (ang 0 r p) := by
  unfold V
  after_reads_at
  pointwise
  rw [dif_neg (by simp; omega), dif_pos (by simp; omega)]
  exact (at_pair _ r _ _ p (by simp; omega)).trans (u38 m c r p)
theorem st10 (c : Dev nD) (r : Fin 2048) (k : Fin 2) (p : Fin 16) :
    (V m c main_v50 : Vec Ideal S2048x128 .f32) (ix2 r (lane k (ent 1 0 p))) = -Ideal.sin (ang 1 r p) := by
  unfold V
  after_reads_at
  pointwise
  rw [dif_neg (by simp; omega), dif_neg (by simp; omega), dif_pos (by simp; omega)]
  exact (at_pair _ r _ _ p (by simp; omega)).trans (u41 m c r p)
theorem st11 (c : Dev nD) (r : Fin 2048) (k : Fin 2) (p : Fin 16) :
    (V m c main_v50 : Vec Ideal S2048x128 .f32) (ix2 r (lane k (ent 1 1 p))) = Ideal.sin (ang 1 r p) := by
  unfold V
  after_reads_at
  pointwise
  rw [dif_neg (by simp; omega), dif_neg (by simp; omega), dif_neg (by simp; omega)]
  exact (at_pair _ r _ _ p (by simp; omega)).trans (u43 m c r p)

/-- The table of cosines. -/
theorem cosT (c : Dev nD) (r : Fin 2048) (k a f : Fin 2) (p : Fin 16) :
    (V m c main_v47 : Vec Ideal S2048x128 .f32) (ix2 r (lane k (ent a f p))) = Ideal.cos (ang a r p) :=
  match a, f with
  | 0, 0 => ct00 m c r k p
  | 0, 1 => ct01 m c r k p
  | 1, 0 => ct10 m c r k p
  | 1, 1 => ct11 m c r k p
/-- The table of sines, negated for the first of a pair. -/
theorem sinT0 (c : Dev nD) (r : Fin 2048) (k a : Fin 2) (p : Fin 16) :
    (V m c main_v50 : Vec Ideal S2048x128 .f32) (ix2 r (lane k (ent a 0 p))) = -Ideal.sin (ang a r p) :=
  match a with
  | 0 => st00 m c r k p
  | 1 => st10 m c r k p
theorem sinT1 (c : Dev nD) (r : Fin 2048) (k a : Fin 2) (p : Fin 16) :
    (V m c main_v50 : Vec Ideal S2048x128 .f32) (ix2 r (lane k (ent a 1 p))) = Ideal.sin (ang a r p) :=
  match a with
  | 0 => st01 m c r k p
  | 1 => st11 m c r k p

/-! ## The other operands -/

theorem lam0 (c : Dev nD) (d : Fin 64) : (V m c main_v55 : Vec Ideal S4x64 .f32) (ix2 0 d) = m ((c : Thread nD τ).loc main_arg3) (ix1 d) := by
  unfold V
  after_reads_at
  unfold StableHlo.upto
  simp only [List.take_succ_cons, List.take_zero]
  after_reads_at
theorem lam1 (c : Dev nD) (d : Fin 64) : (V m c main_v55 : Vec Ideal S4x64 .f32) (ix2 1 d) = m ((c : Thread nD τ).loc main_arg4) (ix1 d) := by
  unfold V
  after_reads_at
  unfold StableHlo.upto
  simp only [List.take_succ_cons, List.take_zero]
  after_reads_at
theorem lam2 (c : Dev nD) (d : Fin 64) : (V m c main_v55 : Vec Ideal S4x64 .f32) (ix2 2 d) = m ((c : Thread nD τ).loc main_arg5) (ix1 d) := by
  unfold V
  after_reads_at
  unfold StableHlo.upto
  simp only [List.take_succ_cons, List.take_zero]
  after_reads_at
theorem lam3 (c : Dev nD) (d : Fin 64) : (V m c main_v55 : Vec Ideal S4x64 .f32) (ix2 3 d) = m ((c : Thread nD τ).loc main_arg6) (ix1 d) := by
  unfold V
  after_reads_at
  unfold StableHlo.upto
  simp only [List.take_succ_cons, List.take_zero]
  after_reads_at

theorem mod_lane (a : Fin 2) (d : Fin 64) : (a.val * 64 + d.val) % 64 = d.val := by omega

theorem vq (c : Dev nD) (a : Fin 2) (d : Fin 64) : (V m c main_v59 : Vec Ideal S1x128 .f32) (ix2 0 (lane a d)) = m ((c : Thread nD τ).loc main_arg7) (ix1 d) := by
  entry_read
  pointwise
  exact congrArg (m ((c : Thread nD τ).loc main_arg7)) (congrArg ix1 (Fin.ext (mod_lane a d)))
theorem vk (c : Dev nD) (a : Fin 2) (d : Fin 64) : (V m c main_v63 : Vec Ideal S1x128 .f32) (ix2 0 (lane a d)) = m ((c : Thread nD τ).loc main_arg8) (ix1 d) := by
  entry_read
  pointwise
  exact congrArg (m ((c : Thread nD τ).loc main_arg8)) (congrArg ix1 (Fin.ext (mod_lane a d)))
theorem vd (c : Dev nD) (l : Fin 128) : (V m c main_v64 : Vec Ideal S1x128 .f32) (ix2 0 l) = m ((c : Thread nD τ).loc main_arg9) (ix1 l) := by
  entry_read
  pointwise

/-- The cached keys. -/
theorem ck (c : Dev nD) (b : Fin 2) (u : Fin 256) (h : Fin 8) (a : Fin 2) (d : Fin 64) :
    (V m c main_v65 : Vec Ideal S2x256x1024 .f32) (ix3 b u ⟨h.val * 128 + (lane a d).val, by omega⟩) = m ((c : Thread nD τ).loc main_arg1) (ix5 b u h a d) := by
  entry_read
  pointwise
/-- The cached values. -/
theorem cv (c : Dev nD) (b : Fin 2) (u : Fin 256) (h : Fin 8) (l : Fin 128) :
    (V m c main_v66 : Vec Ideal S2x256x1024 .f32) (ix3 b u ⟨h.val * 128 + l.val, by omega⟩) = m ((c : Thread nD τ).loc main_arg2) (ix4 b u h l) := by
  entry_read
  pointwise

end Cert.Kernel8Ideal.Dec
-- ==== Proof.Dec.Rope.lean ====
/-
  The rotated queries and keys of the sample attention's reference.
-/
module

public import proofs.«01_k».proof.Proof.Gen.Reference8Ideal.Read
public import proofs.«01_k».proof.Proof.Dec.Spec
public import Idealize.ShloMosaic.Lib.Pointwise

@[expose] public section

set_option maxRecDepth 16384

noncomputable section

namespace Cert.Reference8Ideal.Dec

open Cert.Reference8Ideal Cert.Reference8Ideal.Gen Cert.Reference8Ideal.Read Idealize.ShloMosaic Idealize.ShloMosaic.TcCoe Idealize.SL.Sem Cert.Attn Cert.Dec

variable (X : FVec Ideal S50x12288x128 .f32) (g gk : FVec Ideal S64 .f32)

/-- The row that slab `a + h` holds for token `r` of sample `b`. -/
def row (a : Nat) (ha : a + 8 ≤ 50) (b : Fin 2) (h : Fin 8) (r : Fin 2048) (l : Fin 128) : EReal :=
  X (ix3 ⟨a + h.val, by omega⟩ ⟨8192 + (b.val * 2048 + r.val), by omega⟩ l)

/-- Half `c` of that row, normalised. -/
def unit (a : Nat) (ha : a + 8 ≤ 50) (b : Fin 2) (h : Fin 8) (r : Fin 2048) (c : Fin 2) (d : Fin 64) : EReal :=
  nrm (fun e => row X a ha b h r (lane c e)) (fun d => g (ix1 d)) d

/-- The angles. -/
theorem v22_at (a : Fin 2) (r : Fin 2048) (p : Fin 16) : val_main_v22 (F := Ideal) (ix3 a r p) = ang a r p := by
  match a with
  | 0 =>
    pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
    rfl
  | 1 =>
    pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
    rfl
theorem v23_at (a : Fin 2) (r : Fin 2048) (p : Fin 16) : val_main_v23 (F := Ideal) (ix3 a r p) = Ideal.cos (ang a r p) := by
  rw [← v22_at]
  pointwise [val_main_v23]
theorem v24_at (a : Fin 2) (r : Fin 2048) (p : Fin 16) : val_main_v24 (F := Ideal) (ix3 a r p) = Ideal.sin (ang a r p) := by
  rw [← v22_at]
  pointwise [val_main_v24]

/-- The normalised queries. -/
theorem v47_at (b : Fin 2) (r : Fin 2048) (h : Fin 8) (c : Fin 2) (d : Fin 64) :
    val_main_v47 (F := Ideal) X g (ix5 b r h c d) = unit X g 24 (by omega) b h r c d := by
  pointwise [val_main_v47, val_main_v46, val_main_v45, val_main_v44, val_main_v43, val_main_v42, val_main_v41, val_main_v40, val_main_v39, val_main_v38, val_main_v37, val_main_v36, val_main_v35, val_main_v34, val_main_v27, val_main_v26, val_main_v25, val_main_cst_1, val_main_cst_2, val_main_cst_3]
  rfl

/-- The normalised keys. -/
theorem v100_at (b : Fin 2) (r : Fin 2048) (h : Fin 8) (c : Fin 2) (d : Fin 64) :
    val_main_v100 (F := Ideal) X g (ix5 b r h c d) = unit X g 32 (by omega) b h r c d := by
  pointwise [val_main_v100, val_main_v99, val_main_v98, val_main_v97, val_main_v96, val_main_v95, val_main_v94, val_main_v93, val_main_v92, val_main_v91, val_main_v90, val_main_v89, val_main_v88, val_main_v87, val_main_v30, val_main_v29, val_main_v28, val_main_cst_4, val_main_cst_5, val_main_cst_6]
  rfl

theorem at64 (f : S2x2048x8x2x64.Idx → EReal) (b : Fin 2) (r : Fin 2048) (h : Fin 8) (c : Fin 2) (i j : Fin 64) (e : i.val = j.val) :
    f (ix5 b r h c i) = f (ix5 b r h c j) := by rw [Fin.ext e]
theorem at16 (f : S2x2048x16.Idx → EReal) (a : Fin 2) (r : Fin 2048) (i j : Fin 16) (e : i.val = j.val) :
    f (ix3 a r i) = f (ix3 a r j) := by rw [Fin.ext e]

theorem q00 (b : Fin 2) (r : Fin 2048) (h : Fin 8) (c : Fin 2) (p : Fin 16) :
    val_main_v86 (F := Ideal) X g (ix5 b r h c (ent 0 0 p)) = val_main_v47 (F := Ideal) X g (ix5 b r h c (ent 0 0 p)) * val_main_v23 (F := Ideal) (ix3 0 r p) - val_main_v47 (F := Ideal) X g (ix5 b r h c (ent 0 1 p)) * val_main_v24 (F := Ideal) (ix3 0 r p) := by
  pointwise [val_main_v86, val_main_v61, val_main_v60, val_main_v59, val_main_v58, val_main_v57, val_main_v56, val_main_v55, val_main_v54, val_main_v53, val_main_v52, val_main_v51, val_main_v50, val_main_v49, val_main_v48]
  exact congrArg₂ (fun x y : EReal => x - y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem q01 (b : Fin 2) (r : Fin 2048) (h : Fin 8) (c : Fin 2) (p : Fin 16) :
    val_main_v86 (F := Ideal) X g (ix5 b r h c (ent 0 1 p)) = val_main_v47 (F := Ideal) X g (ix5 b r h c (ent 0 1 p)) * val_main_v23 (F := Ideal) (ix3 0 r p) + val_main_v47 (F := Ideal) X g (ix5 b r h c (ent 0 0 p)) * val_main_v24 (F := Ideal) (ix3 0 r p) := by
  pointwise [val_main_v86, val_main_v66, val_main_v65, val_main_v64, val_main_v63, val_main_v62, val_main_v56, val_main_v55, val_main_v54, val_main_v53, val_main_v52, val_main_v51, val_main_v50, val_main_v49, val_main_v48]
  exact congrArg₂ (fun x y : EReal => x + y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem q10 (b : Fin 2) (r : Fin 2048) (h : Fin 8) (c : Fin 2) (p : Fin 16) :
    val_main_v86 (F := Ideal) X g (ix5 b r h c (ent 1 0 p)) = val_main_v47 (F := Ideal) X g (ix5 b r h c (ent 1 0 p)) * val_main_v23 (F := Ideal) (ix3 1 r p) - val_main_v47 (F := Ideal) X g (ix5 b r h c (ent 1 1 p)) * val_main_v24 (F := Ideal) (ix3 1 r p) := by
  pointwise [val_main_v86, val_main_v80, val_main_v79, val_main_v78, val_main_v77, val_main_v76, val_main_v75, val_main_v74, val_main_v73, val_main_v72, val_main_v71, val_main_v70, val_main_v69, val_main_v68, val_main_v67]
  rw [dif_neg (by omega), dif_neg (by omega), dif_pos (by omega)]
  exact congrArg₂ (fun x y : EReal => x - y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem q11 (b : Fin 2) (r : Fin 2048) (h : Fin 8) (c : Fin 2) (p : Fin 16) :
    val_main_v86 (F := Ideal) X g (ix5 b r h c (ent 1 1 p)) = val_main_v47 (F := Ideal) X g (ix5 b r h c (ent 1 1 p)) * val_main_v23 (F := Ideal) (ix3 1 r p) + val_main_v47 (F := Ideal) X g (ix5 b r h c (ent 1 0 p)) * val_main_v24 (F := Ideal) (ix3 1 r p) := by
  pointwise [val_main_v86, val_main_v85, val_main_v84, val_main_v83, val_main_v82, val_main_v81, val_main_v75, val_main_v74, val_main_v73, val_main_v72, val_main_v71, val_main_v70, val_main_v69, val_main_v68, val_main_v67]
  rw [dif_neg (by omega), dif_neg (by omega), dif_neg (by omega)]
  exact congrArg₂ (fun x y : EReal => x + y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem k00 (b : Fin 2) (r : Fin 2048) (h : Fin 8) (c : Fin 2) (p : Fin 16) :
    val_main_v139 (F := Ideal) X g (ix5 b r h c (ent 0 0 p)) = val_main_v100 (F := Ideal) X g (ix5 b r h c (ent 0 0 p)) * val_main_v23 (F := Ideal) (ix3 0 r p) - val_main_v100 (F := Ideal) X g (ix5 b r h c (ent 0 1 p)) * val_main_v24 (F := Ideal) (ix3 0 r p) := by
  pointwise [val_main_v139, val_main_v114, val_main_v113, val_main_v112, val_main_v111, val_main_v110, val_main_v109, val_main_v108, val_main_v107, val_main_v106, val_main_v105, val_main_v104, val_main_v103, val_main_v102, val_main_v101]
  exact congrArg₂ (fun x y : EReal => x - y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem k01 (b : Fin 2) (r : Fin 2048) (h : Fin 8) (c : Fin 2) (p : Fin 16) :
    val_main_v139 (F := Ideal) X g (ix5 b r h c (ent 0 1 p)) = val_main_v100 (F := Ideal) X g (ix5 b r h c (ent 0 1 p)) * val_main_v23 (F := Ideal) (ix3 0 r p) + val_main_v100 (F := Ideal) X g (ix5 b r h c (ent 0 0 p)) * val_main_v24 (F := Ideal) (ix3 0 r p) := by
  pointwise [val_main_v139, val_main_v119, val_main_v118, val_main_v117, val_main_v116, val_main_v115, val_main_v109, val_main_v108, val_main_v107, val_main_v106, val_main_v105, val_main_v104, val_main_v103, val_main_v102, val_main_v101]
  exact congrArg₂ (fun x y : EReal => x + y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem k10 (b : Fin 2) (r : Fin 2048) (h : Fin 8) (c : Fin 2) (p : Fin 16) :
    val_main_v139 (F := Ideal) X g (ix5 b r h c (ent 1 0 p)) = val_main_v100 (F := Ideal) X g (ix5 b r h c (ent 1 0 p)) * val_main_v23 (F := Ideal) (ix3 1 r p) - val_main_v100 (F := Ideal) X g (ix5 b r h c (ent 1 1 p)) * val_main_v24 (F := Ideal) (ix3 1 r p) := by
  pointwise [val_main_v139, val_main_v133, val_main_v132, val_main_v131, val_main_v130, val_main_v129, val_main_v128, val_main_v127, val_main_v126, val_main_v125, val_main_v124, val_main_v123, val_main_v122, val_main_v121, val_main_v120]
  rw [dif_neg (by omega), dif_neg (by omega), dif_pos (by omega)]
  exact congrArg₂ (fun x y : EReal => x - y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))
theorem k11 (b : Fin 2) (r : Fin 2048) (h : Fin 8) (c : Fin 2) (p : Fin 16) :
    val_main_v139 (F := Ideal) X g (ix5 b r h c (ent 1 1 p)) = val_main_v100 (F := Ideal) X g (ix5 b r h c (ent 1 1 p)) * val_main_v23 (F := Ideal) (ix3 1 r p) + val_main_v100 (F := Ideal) X g (ix5 b r h c (ent 1 0 p)) * val_main_v24 (F := Ideal) (ix3 1 r p) := by
  pointwise [val_main_v139, val_main_v138, val_main_v137, val_main_v136, val_main_v135, val_main_v134, val_main_v128, val_main_v127, val_main_v126, val_main_v125, val_main_v124, val_main_v123, val_main_v122, val_main_v121, val_main_v120]
  rw [dif_neg (by omega), dif_neg (by omega), dif_neg (by omega)]
  exact congrArg₂ (fun x y : EReal => x + y) (congrArg₂ (fun x y : EReal => x * y) (at64 _ b r h c _ _ (by simp; try omega)) (at16 _ _ r _ _ (by first | rfl | (dsimp only; omega))))
    (congrArg₂ (fun x y : EReal => x * y) (at64 _ b r h c _ _ (by simp; try omega)) (at16 _ _ r _ _ (by first | rfl | (dsimp only; omega))))

/-- The rotated queries. -/
theorem v86_at (b : Fin 2) (r : Fin 2048) (h : Fin 8) (c : Fin 2) (d : Fin 64) :
    val_main_v86 (F := Ideal) X g (ix5 b r h c d)
      = rot (unit X g 24 (by omega) b h r c) (fun a p => Ideal.cos (ang a r p)) (fun a p => Ideal.sin (ang a r p)) d := by
  obtain ⟨a, f, p, rfl⟩ := ent_split d
  match a, f with
  | 0, 0 => rw [q00, rot_lo, v47_at, v47_at, v23_at, v24_at]
  | 0, 1 => rw [q01, rot_hi, v47_at, v47_at, v23_at, v24_at]
  | 1, 0 => rw [q10, rot_lo, v47_at, v47_at, v23_at, v24_at]
  | 1, 1 => rw [q11, rot_hi, v47_at, v47_at, v23_at, v24_at]

/-- The rotated keys. -/
theorem v139_at (b : Fin 2) (r : Fin 2048) (h : Fin 8) (c : Fin 2) (d : Fin 64) :
    val_main_v139 (F := Ideal) X g (ix5 b r h c d)
      = rot (unit X g 32 (by omega) b h r c) (fun a p => Ideal.cos (ang a r p)) (fun a p => Ideal.sin (ang a r p)) d := by
  obtain ⟨a, f, p, rfl⟩ := ent_split d
  match a, f with
  | 0, 0 => rw [k00, rot_lo, v100_at, v100_at, v23_at, v24_at]
  | 0, 1 => rw [k01, rot_hi, v100_at, v100_at, v23_at, v24_at]
  | 1, 0 => rw [k10, rot_lo, v100_at, v100_at, v23_at, v24_at]
  | 1, 1 => rw [k11, rot_hi, v100_at, v100_at, v23_at, v24_at]

end Cert.Reference8Ideal.Dec
-- ==== Proof.Dec.Ref.lean ====
/-
  The sample attention's reference, read at an index: its scores and its two softmaxes.
-/
module

public import proofs.«01_k».proof.Proof.Dec.Rope
public import Idealize.ShloMosaic.Lib.Pointwise

@[expose] public section

set_option maxRecDepth 16384

noncomputable section

namespace Cert.Reference8Ideal.Dec

open Cert.Reference8Ideal Cert.Reference8Ideal.Gen Cert.Reference8Ideal.Read Idealize.ShloMosaic Idealize.ShloMosaic.TcCoe Idealize.SL.Sem Cert.Attn Cert.Dec

variable (X : FVec Ideal S50x12288x128 .f32) (K1 : FVec Ideal S2x256x8x2x64 .f32) (V1 : FVec Ideal S2x256x8x128 .f32)
  (a1 a2 a3 a4 g gk : FVec Ideal S64 .f32) (dg : FVec Ideal S128 .f32)

/-- Half a row of slab `a + h`, normalised and rotated. -/
def spun (a : Nat) (ha : a + 8 ≤ 50) (b : Fin 2) (h : Fin 8) (r : Fin 2048) (c : Fin 2) : Fin 64 → EReal :=
  rot (unit X g a ha b h r c) (fun a p => Ideal.cos (ang a r p)) (fun a p => Ideal.sin (ang a r p))

/-- The keys of a sample: the cached ones, then its own. -/
def keyAll (b : Fin 2) (h : Fin 8) (t : Fin 2304) (c : Fin 2) (d : Fin 64) : EReal :=
  if ht : t.val < 256 then K1 (ix5 b ⟨t.val, ht⟩ h c d) else spun X gk 32 (by omega) b h ⟨t.val - 256, by omega⟩ c d
/-- The values of a sample: the cached ones, then its own. -/
def valAll (b : Fin 2) (h : Fin 8) (t : Fin 2304) (l : Fin 128) : EReal :=
  if ht : t.val < 256 then V1 (ix4 b ⟨t.val, ht⟩ h l) else row X 40 (by omega) b h ⟨t.val - 256, by omega⟩ l

/-- The scores of head `h`'s half `c` in sample `b`. -/
def scores (b : Fin 2) (h : Fin 8) (c : Fin 2) (r : Fin 2048) (t : Fin 2304) : EReal :=
  score (spun X g 24 (by omega) b h r c) (keyAll X K1 gk b h t c)

/-- The keys. -/
theorem v140_at (b : Fin 2) (t : Fin 2304) (h : Fin 8) (c : Fin 2) (d : Fin 64) :
    val_main_v140 (F := Ideal) X K1 gk (ix5 b t h c d) = keyAll X K1 gk b h t c d := by
  pointwise [val_main_v140]
  unfold keyAll
  split
  · rfl
  · exact v139_at X gk b _ h c d

/-- The values. -/
theorem v142_at (b : Fin 2) (t : Fin 2304) (h : Fin 8) (l : Fin 128) :
    val_main_v142 (F := Ideal) X V1 (ix4 b t h l) = valAll X V1 b h t l := by
  pointwise [val_main_v142, val_main_v141, val_main_v33, val_main_v32, val_main_v31]
  unfold valAll
  split
  · rfl
  · exact congrArg X (congr (congr (congrArg ix3 (Fin.ext (by simp; try omega))) (Fin.ext (by simp; try omega))) (Fin.ext (by simp; try omega)))

/-- The scores. -/
theorem v153_at (b : Fin 2) (r : Fin 2048) (t : Fin 2304) (h : Fin 8) (c : Fin 2) :
    val_main_v153 (F := Ideal) X K1 g gk (ix5 b c h r t) = scores X K1 g gk b h c r t := by
  pointwise [val_main_v153, val_main_v152, val_main_cst_10, val_main_v151]
  simp only [v86_at, v140_at]
  rfl

/-- The scores lose their last axis. -/
theorem red : S2x2x8x2048x2304.Reduces [4] S2x2x8x2048 := by decide

/-- The host's maximum along the last axis, of any array. -/
theorem max_at (y : S2x2x8x2048x2304.Idx → EReal) (z : S_.Idx → EReal) (b : Fin 2) (r : Fin 2048) (h : Fin 8) (c : Fin 2) :
    Host.reduce (α := EReal) max y z reducesTo_S2x2x8x2048x2304_S2x2x8x2048_d4 h_S_ (ix4 b c h r)
      = Finset.fold max (z (Shape.Idx.first h_S_)) (fun t : Fin 2304 => y (ix5 b c h r t)) Finset.univ := by
  rw [Host.reduce_eq_fold_single max y z reducesTo_S2x2x8x2048x2304_S2x2x8x2048_d4 red h_S_ (ix4 b c h r)]
  refine Finset.fold_congr fun t _ => congrArg y (funext fun a => Fin.ext ?_)
  match a with
  | ⟨0, _⟩ => simp [Shape.Reduces.lift_val, Shape.Reduces.liftVal]
  | ⟨1, _⟩ => simp [Shape.Reduces.lift_val, Shape.Reduces.liftVal]
  | ⟨2, _⟩ => simp [Shape.Reduces.lift_val, Shape.Reduces.liftVal]
  | ⟨3, _⟩ => simp [Shape.Reduces.lift_val, Shape.Reduces.liftVal]
  | ⟨4, _⟩ => simp [Shape.Reduces.lift_val, Shape.Reduces.liftVal]

/-- The same of the operation's own name. -/
theorem maxI_at (y : FVec Ideal S2x2x8x2048x2304 .f32) (z : FVec Ideal S_ .f32) (b : Fin 2) (r : Fin 2048) (h : Fin 8) (c : Fin 2) :
    Host.reduce (α := EReal) (FloatOps.maximumf (F := Ideal) (φ := .f32)) y z reducesTo_S2x2x8x2048x2304_S2x2x8x2048_d4 h_S_ (ix4 b c h r)
      = Finset.fold max (z (Shape.Idx.first h_S_)) (fun t : Fin 2304 => y (ix5 b c h r t)) Finset.univ := max_at y z b r h c
/-- The maximum, at its operation. -/
theorem v154_eq : val_main_v154 (F := Ideal) X K1 g gk = Host.reduce (FloatOps.maximumf (F := Ideal) (φ := .f32)) (val_main_v153 (F := Ideal) X K1 g gk) (val_main_cst_11 (F := Ideal)) reducesTo_S2x2x8x2048x2304_S2x2x8x2048_d4 h_S_ := by
  unfold val_main_v154; rfl
/-- The maximum, as a fold over the keys. -/
theorem v154_at0 (b : Fin 2) (r : Fin 2048) (h : Fin 8) (c : Fin 2) :
    val_main_v154 (F := Ideal) X K1 g gk (ix4 b c h r) = Finset.fold max (val_main_cst_11 (F := Ideal) (Shape.Idx.first h_S_)) (fun t : Fin 2304 => val_main_v153 (F := Ideal) X K1 g gk (ix5 b c h r t)) Finset.univ := by
  rw [v154_eq]
  generalize val_main_v153 (F := Ideal) X K1 g gk = y
  exact maxI_at y _ b r h c
/-- The greatest score of a row. -/
theorem v154_at (b : Fin 2) (r : Fin 2048) (h : Fin 8) (c : Fin 2) :
    val_main_v154 (F := Ideal) X K1 g gk (ix4 b c h r) = most (scores X K1 g gk b h c r) := by
  rw [v154_at0, funext fun t => v153_at X K1 g gk b r t h c]
  generalize scores X K1 g gk b h c r = y
  pointwise [val_main_cst_11]
  rfl
/-- The scores below their greatest. -/
theorem v159_at (b : Fin 2) (r : Fin 2048) (t : Fin 2304) (h : Fin 8) (c : Fin 2) :
    val_main_v159 (F := Ideal) X K1 g gk (ix5 b c h r t) = scores X K1 g gk b h c r t - most (scores X K1 g gk b h c r) := by
  have e : idx_main_v157 (idx_main_v158 (ix5 b c h r t)) = ix4 b c h r :=
    funext fun a => match a with | ⟨0, _⟩ => rfl | ⟨1, _⟩ => rfl | ⟨2, _⟩ => rfl | ⟨3, _⟩ => rfl
  rw [val_main_v159_apply, val_main_v158_apply, val_main_v157_apply, val_main_v156_apply, e, v154_at, v153_at, val_main_v155_apply,
    val_main_cst_12_apply]
  exact congrArg (scores X K1 g gk b h c r t - ·) (max_most _)

/-- The softmax's denominator. -/
theorem v161_at (b : Fin 2) (r : Fin 2048) (h : Fin 8) (c : Fin 2) :
    val_main_v161 (F := Ideal) X K1 g gk (ix4 b c h r) = ∑ u, Ideal.exp (scores X K1 g gk b h c r u - most (scores X K1 g gk b h c r)) := by
  have e : ∀ u, val_main_v160 (F := Ideal) X K1 g gk (ix5 b c h r u) = Ideal.exp (scores X K1 g gk b h c r u - most (scores X K1 g gk b h c r)) := fun u => by
    rw [← v159_at]; rfl
  simp only [← e]
  unfold val_main_v161
  generalize val_main_v160 (F := Ideal) X K1 g gk = y
  pointwise [val_main_cst_13]

/-- The softmax of the scores. -/
theorem v164_at (b : Fin 2) (r : Fin 2048) (t : Fin 2304) (h : Fin 8) (c : Fin 2) :
    val_main_v164 (F := Ideal) X K1 g gk (ix5 b c h r t) = soft (scores X K1 g gk b h c r) t := by
  pointwise [val_main_v164, val_main_v163, val_main_v162, val_main_v160]
  rw [v161_at, v159_at]
  rfl

end Cert.Reference8Ideal.Dec
-- ==== Proof.Dec.Scratch.lean ====
/-
  The sample attention's blocks, and its scratch arrays: after each query tile they hold the keys and values, cached and own,
  of the tile's head.
-/
module

public import proofs.«01_k».proof.Proof.Dec.Acc
public import proofs.«01_k».proof.Proof.Dec.Host
public import proofs.«01_k».proof.Proof.Dec.Ref
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel8Ideal.Dec

open Cert.Kernel8Ideal Cert.Kernel8Ideal.Gen Idealize.ShloMosaic Idealize.ShloMosaic.TcCoe Idealize.SL.Sem Cert.Attn Cert.Dec
open Idealize.ShloMosaic.Pipeline (Dat)
open Cert.Reference8Ideal.Dec (row spun keyAll valAll )

variable (m : (ℓ : Loc nD τ sig) → Buf (Elt Ideal) ℓ)

abbrev X (c : Dev nD) : FVec Ideal S50x12288x128 .f32 := m ((c : Thread nD τ).loc main_arg0)
abbrev K1 (c : Dev nD) : FVec Ideal S2x256x8x2x64 .f32 := m ((c : Thread nD τ).loc main_arg1)
abbrev V1 (c : Dev nD) : FVec Ideal S2x256x8x128 .f32 := m ((c : Thread nD τ).loc main_arg2)
abbrev a1 (c : Dev nD) : FVec Ideal S64 .f32 := m ((c : Thread nD τ).loc main_arg3)
abbrev a2 (c : Dev nD) : FVec Ideal S64 .f32 := m ((c : Thread nD τ).loc main_arg4)
abbrev a3 (c : Dev nD) : FVec Ideal S64 .f32 := m ((c : Thread nD τ).loc main_arg5)
abbrev a4 (c : Dev nD) : FVec Ideal S64 .f32 := m ((c : Thread nD τ).loc main_arg6)
abbrev gq (c : Dev nD) : FVec Ideal S64 .f32 := m ((c : Thread nD τ).loc main_arg7)
abbrev gk (c : Dev nD) : FVec Ideal S64 .f32 := m ((c : Thread nD τ).loc main_arg8)
abbrev dg (c : Dev nD) : FVec Ideal S128 .f32 := m ((c : Thread nD τ).loc main_arg9)

/-- The blocks of grid point `t`: sample `t / 64`, head `t / 8 % 8`, query tile `t % 8`. -/
theorem idx_facts : ∀ t : Fin cfg0.N,
    win0_0.index t = ![0, 0]
    ∧ win0_1.index t = ![24 + t.val / 8 % 8, 32 + t.val / 64 * 8 + t.val % 8, 0]
    ∧ win0_2.index t = ![32 + t.val / 8 % 8, 4 + t.val / 64, 0]
    ∧ win0_3.index t = ![40 + t.val / 8 % 8, 4 + t.val / 64, 0]
    ∧ win0_4.index t = ![t.val / 64, 0, t.val / 8 % 8]
    ∧ win0_5.index t = ![t.val / 64, 0, t.val / 8 % 8]
    ∧ win0_6.index t = ![0, 0]
    ∧ win0_7.index t = ![0, 0]
    ∧ win0_8.index t = ![0, 0]
    ∧ win0_9.index t = ![t.val % 8, 0]
    ∧ win0_10.index t = ![t.val % 8, 0]
    ∧ win0_11.index t = ![0, 0]
    ∧ win0_12.index t = ![0, 0]
    ∧ win0_13.index t = ![t.val / 64 * 8 + t.val % 8, t.val / 8 % 8] := (by decide +kernel : ∀ t : Fin grid0.N, _)

theorem lt_N (t : Fin cfg0.N) : t.val < 128 := lt_of_lt_of_eq t.isLt N_0

/-- The point's sample. -/
abbrev sa (t : Fin cfg0.N) : Fin 2 := ⟨t.val / 64, by have := lt_N t; omega⟩
/-- Its head. -/
abbrev hd (t : Fin cfg0.N) : Fin 8 := ⟨t.val / 8 % 8, by omega⟩
/-- Token `r` of its query tile. -/
abbrev tok (t : Fin cfg0.N) (r : Fin 256) : Fin 2048 := ⟨t.val % 8 * 256 + r.val, by omega⟩

/-! ## The blocks of a grid point -/

theorem bl (c : Dev nD) (t : Fin cfg0.N) (i : Fin 4) (d : Fin 64) :
    (iblk m c 0 t : Vec Ideal S4x64 .f32) (ix2 i d) = (V m c main_v55 : Vec Ideal S4x64 .f32) (ix2 i d) := by
  blk_ext [iblk, idx_facts t]
theorem b1 (c : Dev nD) (t : Fin cfg0.N) (r : Fin 256) (l : Fin 128) :
    (iblk m c 1 t : Vec Ideal S1x256x128 .f32) (ix3 0 r l) = row (X m c) 24 (by omega) (sa t) (hd t) (tok t r) l := by
  unfold row
  blk_ext [iblk, V, idx_facts t]
theorem b2 (c : Dev nD) (t : Fin cfg0.N) (r : Fin 2048) (l : Fin 128) :
    (iblk m c 2 t : Vec Ideal S1x2048x128 .f32) (ix3 0 r l) = row (X m c) 32 (by omega) (sa t) (hd t) r l := by
  unfold row
  blk_ext [iblk, V, idx_facts t]
theorem b3 (c : Dev nD) (t : Fin cfg0.N) (r : Fin 2048) (l : Fin 128) :
    (iblk m c 3 t : Vec Ideal S1x2048x128 .f32) (ix3 0 r l) = row (X m c) 40 (by omega) (sa t) (hd t) r l := by
  unfold row
  blk_ext [iblk, V, idx_facts t]
theorem b4 (c : Dev nD) (t : Fin cfg0.N) (u : Fin 256) (a : Fin 2) (d : Fin 64) :
    (iblk m c 4 t : Vec Ideal S1x256x128 .f32) (ix3 0 u (lane a d)) = K1 m c (ix5 (sa t) u (hd t) a d) := by
  refine Eq.trans ?_ (ck m c (sa t) u (hd t) a d)
  blk_ext [iblk, idx_facts t]
theorem b5 (c : Dev nD) (t : Fin cfg0.N) (u : Fin 256) (l : Fin 128) :
    (iblk m c 5 t : Vec Ideal S1x256x128 .f32) (ix3 0 u l) = V1 m c (ix4 (sa t) u (hd t) l) := by
  refine Eq.trans ?_ (cv m c (sa t) u (hd t) l)
  blk_ext [iblk, idx_facts t]
theorem b6 (c : Dev nD) (t : Fin cfg0.N) (a : Fin 2) (d : Fin 64) :
    (iblk m c 6 t : Vec Ideal S1x128 .f32) (ix2 0 (lane a d)) = gq m c (ix1 d) := by
  refine Eq.trans ?_ (vq m c a d)
  blk_ext [iblk, idx_facts t]
theorem b7 (c : Dev nD) (t : Fin cfg0.N) (a : Fin 2) (d : Fin 64) :
    (iblk m c 7 t : Vec Ideal S1x128 .f32) (ix2 0 (lane a d)) = gk m c (ix1 d) := by
  refine Eq.trans ?_ (vk m c a d)
  blk_ext [iblk, idx_facts t]
theorem b8 (c : Dev nD) (t : Fin cfg0.N) (l : Fin 128) :
    (iblk m c 8 t : Vec Ideal S1x128 .f32) (ix2 0 l) = dg m c (ix1 l) := by
  refine Eq.trans ?_ (vd m c l)
  blk_ext [iblk, idx_facts t]
theorem b9 (c : Dev nD) (t : Fin cfg0.N) (r : Fin 256) (l : Fin 128) :
    (iblk m c 9 t : Vec Ideal S256x128 .f32) (ix2 r l) = (V m c main_v47 : Vec Ideal S2048x128 .f32) (ix2 (tok t r) l) := by
  blk_ext [iblk, idx_facts t]
theorem b10 (c : Dev nD) (t : Fin cfg0.N) (r : Fin 256) (l : Fin 128) :
    (iblk m c 10 t : Vec Ideal S256x128 .f32) (ix2 r l) = (V m c main_v50 : Vec Ideal S2048x128 .f32) (ix2 (tok t r) l) := by
  blk_ext [iblk, idx_facts t]
theorem b11 (c : Dev nD) (t : Fin cfg0.N) (r : Fin 2048) (l : Fin 128) :
    (iblk m c 11 t : Vec Ideal S2048x128 .f32) (ix2 r l) = (V m c main_v47 : Vec Ideal S2048x128 .f32) (ix2 r l) := by
  blk_ext [iblk, idx_facts t]
theorem b12 (c : Dev nD) (t : Fin cfg0.N) (r : Fin 2048) (l : Fin 128) :
    (iblk m c 12 t : Vec Ideal S2048x128 .f32) (ix2 r l) = (V m c main_v50 : Vec Ideal S2048x128 .f32) (ix2 r l) := by
  blk_ext [iblk, idx_facts t]

/-! ## The rotated queries and keys -/

theorem query_eq (c : Dev nD) (t : Fin cfg0.N) (r : Fin 256) (a : Fin 2) (d : Fin 64) :
    k0_pay13 (k0_pay12 (iblk m c 1 t) (iblk m c 6 t)) (iblk m c 9 t) (iblk m c 10 t) (ix2 r (lane a d))
      = spun (X m c) (gq m c) 24 (by omega) (sa t) (hd t) (tok t r) a d := by
  rw [rotq_at]
  refine turned_eq _ _ _ (Reference8Ideal.Dec.unit (X m c) (gq m c) 24 (by omega) (sa t) (hd t) (tok t r))
    (fun a p => Ideal.cos (ang a (tok t r) p)) (fun a p => Ideal.sin (ang a (tok t r) p)) ?_ ?_ ?_ ?_ a d
  · intro a d
    rw [queries_at (iblk m c 1 t) (iblk m c 6 t) (fun d => gq m c (ix1 d)) (b6 m c t) r a d]
    exact congrArg (fun x => nrm x (fun d => gq m c (ix1 d)) d) (funext fun e => b1 m c t r (lane a e))
  · exact fun k a f p => (b9 m c t r _).trans (cosT m c _ k a f p)
  · exact fun k a p => (b10 m c t r _).trans (sinT0 m c _ k a p)
  · exact fun k a p => (b10 m c t r _).trans (sinT1 m c _ k a p)

theorem key_eq (c : Dev nD) (t : Fin cfg0.N) (r : Fin 2048) (a : Fin 2) (d : Fin 64) :
    k0_pay10 (k0_pay4 (iblk m c 2 t)) (k0_pay5 (iblk m c 7 t)) k0_pay6 (k0_pay8 (iblk m c 2 t)) (k0_pay9 (iblk m c 2 t))
        (iblk m c 11 t) (iblk m c 12 t) (ix2 r (lane a d))
      = spun (X m c) (gk m c) 32 (by omega) (sa t) (hd t) r a d := by
  rw [keys_at (iblk m c 2 t) (iblk m c 7 t) (iblk m c 11 t) (iblk m c 12 t) r (lane a d)]
  refine turned_eq _ _ _ (Reference8Ideal.Dec.unit (X m c) (gk m c) 32 (by omega) (sa t) (hd t) r)
    (fun a p => Ideal.cos (ang a r p)) (fun a p => Ideal.sin (ang a r p)) ?_ ?_ ?_ ?_ a d
  · intro a d
    rw [keyn_eq _ _ (fun d => gk m c (ix1 d)) (b7 m c t) a d]
    exact congrArg (fun x => nrm x (fun d => gk m c (ix1 d)) d) (funext fun e => b2 m c t r (lane a e))
  · exact fun k a f p => (b11 m c t r _).trans (cosT m c _ k a f p)
  · exact fun k a p => (b12 m c t r _).trans (sinT0 m c _ k a p)
  · exact fun k a p => (b12 m c t r _).trans (sinT1 m c _ k a p)

/-! ## The scratch -/

/-- A key of the scratch is a cached one or one of the sample. -/
theorem key_base (c : Dev nD) (t : Fin cfg0.N) (h0 : t.val % 8 = 0) (u : Fin 2304) (a : Fin 2) (d : Fin 64) :
    ((outsAt0 m c t.val t.isLt).2.1 : Vec Ideal S2304x128 .bf16) (ix2 u (lane a d))
      = keyAll (X m c) (K1 m c) (gk m c) (sa t) (hd t) u a d := by
  unfold keyAll
  by_cases hu : u.val < 256
  · rw [dif_pos hu, ← b4]
    exact (keyA_lo m c t h0 ⟨u.val, hu⟩ (lane a d)).trans (cachek_at _ _ _)
  · rw [dif_neg hu, ← key_eq]
    have e : u = ⟨256 + (⟨u.val - 256, by omega⟩ : Fin 2048).val, by dsimp only; omega⟩ := Fin.ext (by dsimp only; omega)
    refine Eq.trans ?_ (keyA_hi m c t h0 ⟨u.val - 256, by omega⟩ (lane a d))
    exact congrArg (fun u => ((outsAt0 m c t.val t.isLt).2.1 : Vec Ideal S2304x128 .bf16) (ix2 u (lane a d))) e

theorem val_base (c : Dev nD) (t : Fin cfg0.N) (h0 : t.val % 8 = 0) (u : Fin 2304) (l : Fin 128) :
    ((outsAt0 m c t.val t.isLt).2.2 : Vec Ideal S2304x128 .bf16) (ix2 u l) = valAll (X m c) (V1 m c) (sa t) (hd t) u l := by
  unfold valAll
  by_cases hu : u.val < 256
  · rw [dif_pos hu, ← b5]
    exact (valA_lo m c t h0 ⟨u.val, hu⟩ l).trans (cachev_at _ _ _)
  · rw [dif_neg hu, ← b3]
    have e : u = ⟨256 + (⟨u.val - 256, by omega⟩ : Fin 2048).val, by dsimp only; omega⟩ := Fin.ext (by dsimp only; omega)
    refine Eq.trans ?_ ((valA_hi m c t h0 ⟨u.val - 256, by omega⟩ l).trans (values_at _ _ _))
    exact congrArg (fun u => ((outsAt0 m c t.val t.isLt).2.2 : Vec Ideal S2304x128 .bf16) (ix2 u l)) e

/-- After every point the scratch holds the keys and the values of the point's sample and head. -/
theorem scratch (c : Dev nD) : ∀ (n : ℕ) (t : Fin cfg0.N), t.val = n →
    (∀ u a d, ((outsAt0 m c t.val t.isLt).2.1 : Vec Ideal S2304x128 .bf16) (ix2 u (lane a d))
      = keyAll (X m c) (K1 m c) (gk m c) (sa t) (hd t) u a d)
    ∧ ∀ u l, ((outsAt0 m c t.val t.isLt).2.2 : Vec Ideal S2304x128 .bf16) (ix2 u l) = valAll (X m c) (V1 m c) (sa t) (hd t) u l := by
  intro n
  induction n with
  | zero => exact fun t e => ⟨key_base m c t (by omega), val_base m c t (by omega)⟩
  | succ n ih =>
    intro t e
    by_cases h0 : t.val % 8 = 0
    · exact ⟨key_base m c t h0, val_base m c t h0⟩
    · rw [keyS m c t h0, valS m c t h0]
      have hl := t.isLt
      have := ih ⟨t.val - 1, by omega⟩ (by dsimp only; omega)
      have e1 : sa ⟨t.val - 1, by omega⟩ = sa t := Fin.ext (by dsimp only; omega)
      have e2 : hd ⟨t.val - 1, by omega⟩ = hd t := Fin.ext (by dsimp only; omega)
      rw [e1, e2] at this
      exact this

theorem lam_eq (c : Dev nD) (t : Fin cfg0.N) : k0_pay14 (iblk m c 0 t) (ix2 0 0) + k0_pay15 (F := Ideal) (ix2 0 0)
    = lamOf (fun i => a1 m c (ix1 i)) (fun i => a2 m c (ix1 i)) (fun i => a3 m c (ix1 i)) fun i => a4 m c (ix1 i) := by
  rw [lam_at]
  simp only [bl]
  exact congr (congr (congr (congrArg lamOf (funext (lam0 m c))) (funext (lam1 m c))) (funext (lam2 m c))) (funext (lam3 m c))

theorem spun_real (x : FVec Ideal S50x12288x128 .f32) (g : FVec Ideal S64 .f32) (fg : ∀ d, ∃ z : ℝ, g (ix1 d) = z) (a : Nat) (ha : a + 8 ≤ 50)
    (b : Fin 2) (h : Fin 8) (r : Fin 2048) (k : Fin 2) (d : Fin 64) : ∃ z : ℝ, spun x g a ha b h r k d = z :=
  rot_real _ _ _ (fun d => nrm_real _ _ d (fg d)) (fun a p => cos_real a r p) (fun a p => sin_real a r p) d

theorem key_real (x : FVec Ideal S50x12288x128 .f32) (k1 : FVec Ideal S2x256x8x2x64 .f32) (g : FVec Ideal S64 .f32) (fg : ∀ d, ∃ z : ℝ, g (ix1 d) = z)
    (fk : ∀ b u h k d, ∃ z : ℝ, k1 (ix5 b u h k d) = z) (b : Fin 2) (h : Fin 8) (t : Fin 2304) (k : Fin 2) (d : Fin 64) :
    ∃ z : ℝ, keyAll x k1 g b h t k d = z := by
  unfold keyAll
  split
  · exact fk _ _ _ _ _
  · exact spun_real x g fg _ _ _ _ _ _ _

end Cert.Kernel8Ideal.Dec
-- ==== Proof.Dec.Out.lean ====
/-
  The result of the sample attention's reference, read at an index.
-/
module

public import proofs.«01_k».proof.Proof.Dec.Ref
public import Idealize.ShloMosaic.Lib.Pointwise

@[expose] public section

set_option maxRecDepth 16384

noncomputable section

namespace Cert.Reference8Ideal.Dec

open Cert.Reference8Ideal Cert.Reference8Ideal.Gen Cert.Reference8Ideal.Read Idealize.ShloMosaic Idealize.ShloMosaic.TcCoe Idealize.SL.Sem Cert.Attn Cert.Dec

variable (X : FVec Ideal S50x12288x128 .f32) (K1 : FVec Ideal S2x256x8x2x64 .f32) (V1 : FVec Ideal S2x256x8x128 .f32)
  (a1 a2 a3 a4 g gk : FVec Ideal S64 .f32) (dg : FVec Ideal S128 .f32)

/-- The two softmaxes over the values. -/
def mixed (b : Fin 2) (r : Fin 2048) (h : Fin 8) (l : Fin 128) : EReal :=
  ∑ t, (soft (scores X K1 g gk b h 0 r) t - lamOf (fun i => a1 (ix1 i)) (fun i => a2 (ix1 i)) (fun i => a3 (ix1 i)) (fun i => a4 (ix1 i))
    * soft (scores X K1 g gk b h 1 r) t) * valAll X V1 b h t l

/-- Each softmax, taken out of the pair. -/
theorem v166_at (b : Fin 2) (r : Fin 2048) (h : Fin 8) (t : Fin 2304) :
    val_main_v166 (F := Ideal) X K1 g gk (ix4 b h r t) = soft (scores X K1 g gk b h 0 r) t := by
  rw [← v164_at]
  unfold val_main_v166 val_main_v165
  generalize val_main_v164 (F := Ideal) X K1 g gk = y
  pointwise
theorem v168_at (b : Fin 2) (r : Fin 2048) (h : Fin 8) (t : Fin 2304) :
    val_main_v168 (F := Ideal) X K1 g gk (ix4 b h r t) = soft (scores X K1 g gk b h 1 r) t := by
  rw [← v164_at]
  unfold val_main_v168 val_main_v167
  generalize val_main_v164 (F := Ideal) X K1 g gk = y
  pointwise

/-- The weight of the second softmax. -/
theorem v169_at (b : Fin 2) (r : Fin 2048) (h : Fin 8) (t : Fin 2304) :
    val_main_v169 (F := Ideal) a1 a2 a3 a4 (ix4 b h r t)
      = lamOf (fun i => a1 (ix1 i)) (fun i => a2 (ix1 i)) (fun i => a3 (ix1 i)) fun i => a4 (ix1 i) := by
  pointwise [val_main_v169, val_main_v150, val_main_v149, val_main_v148, val_main_v147, val_main_v146, val_main_v145, val_main_v144, val_main_v143, val_main_cst_7, val_main_cst_8, val_main_cst_9]
  rfl

/-- The weights. -/
theorem v171_at (b : Fin 2) (r : Fin 2048) (h : Fin 8) (t : Fin 2304) :
    val_main_v171 (F := Ideal) X K1 a1 a2 a3 a4 g gk (ix4 b h r t) = soft (scores X K1 g gk b h 0 r) t
      - lamOf (fun i => a1 (ix1 i)) (fun i => a2 (ix1 i)) (fun i => a3 (ix1 i)) (fun i => a4 (ix1 i)) * soft (scores X K1 g gk b h 1 r) t := by
  rw [val_main_v171_apply, val_main_v170_apply, v166_at, v168_at, v169_at]
  rfl

/-- The product with the values. -/
theorem v172_at (b : Fin 2) (r : Fin 2048) (h : Fin 8) (l : Fin 128) :
    val_main_v172 (F := Ideal) X K1 V1 a1 a2 a3 a4 g gk (ix4 b h l r)
      = ∑ t, val_main_v142 (F := Ideal) X V1 (ix4 b t h l) * val_main_v171 (F := Ideal) X K1 a1 a2 a3 a4 g gk (ix4 b h r t) := by
  unfold val_main_v172
  generalize val_main_v171 (F := Ideal) X K1 a1 a2 a3 a4 g gk = y
  generalize val_main_v142 (F := Ideal) X V1 = z
  pointwise

/-- The mixed values. -/
theorem v173_at (b : Fin 2) (r : Fin 2048) (h : Fin 8) (l : Fin 128) :
    val_main_v173 (F := Ideal) X K1 V1 a1 a2 a3 a4 g gk (ix4 b r h l) = mixed X K1 V1 a1 a2 a3 a4 g gk b r h l := by
  have e : val_main_v173 (F := Ideal) X K1 V1 a1 a2 a3 a4 g gk (ix4 b r h l) = val_main_v172 (F := Ideal) X K1 V1 a1 a2 a3 a4 g gk (ix4 b h l r) := by
    unfold val_main_v173
    generalize val_main_v172 (F := Ideal) X K1 V1 a1 a2 a3 a4 g gk = y
    pointwise
  rw [e, v172_at]
  unfold mixed
  exact Finset.sum_congr rfl fun t _ => by rw [v171_at, v142_at, mul_comm]

/-- The normalised output, before it is laid out by tokens. -/
theorem v188_at (b : Fin 2) (r : Fin 2048) (h : Fin 8) (l : Fin 128) :
    val_main_v188 (F := Ideal) X K1 V1 a1 a2 a3 a4 g gk dg (ix4 b r h l)
      = outn (mixed X K1 V1 a1 a2 a3 a4 g gk b r h) (fun j => dg (ix1 j)) l := by
  pointwise [val_main_v188, val_main_v187, val_main_v186, val_main_v185, val_main_v184, val_main_v183, val_main_v182, val_main_v181, val_main_v180, val_main_v179, val_main_v178, val_main_v177, val_main_v176, val_main_v175, val_main_v174, val_main_cst_14, val_main_cst_15, val_main_cst_16, val_main_cst_17]
  simp only [v173_at]
  rfl

/-- The output of the attention. -/
theorem out_at (b : Fin 2) (r : Fin 2048) (h : Fin 8) (l : Fin 128) :
    val_main_v190 (F := Ideal) X K1 V1 a1 a2 a3 a4 g gk dg (ix2 ⟨b.val * 2048 + r.val, by omega⟩ ⟨h.val * 128 + l.val, by omega⟩)
      = outn (mixed X K1 V1 a1 a2 a3 a4 g gk b r h) (fun j => dg (ix1 j)) l := by
  rw [← v188_at X K1 V1 a1 a2 a3 a4 g gk dg b r h l]
  pointwise [val_main_v190, val_main_v189]

end Cert.Reference8Ideal.Dec
-- ==== Proof.Dec.Final.lean ====
/-
  The array that the sample attention's grid writes is the reference's result.
-/
module

public import proofs.«01_k».proof.Proof.Dec.Scratch
public import proofs.«01_k».proof.Proof.Dec.Out
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel8Ideal.Dec

open Cert.Kernel8Ideal Cert.Kernel8Ideal.Gen Idealize.ShloMosaic Idealize.ShloMosaic.TcCoe Idealize.SL.Sem Cert.Attn Cert.Dec
open Idealize.ShloMosaic.Pipeline (Dat)
open Cert.Reference8Ideal.Dec (row spun keyAll valAll mixed)

variable (m : (ℓ : Loc nD τ sig) → Buf (Elt Ideal) ℓ)

/-- With finite gains and cached keys the written array is the reference's result. -/
theorem res_eq (c : Dev nD) (fq : ∀ d, ∃ z : ℝ, gq m c (ix1 d) = z) (fg : ∀ d, ∃ z : ℝ, gk m c (ix1 d) = z)
    (fk : ∀ b u h k d, ∃ z : ℝ, K1 m c (ix5 b u h k d) = z) :
    (dats m 0 c).arrAt 13 cfg0.N = Reference8Ideal.Read.val_main_v190 (F := Ideal) (X m c) (K1 m c) (V1 m c) (a1 m c) (a2 m c) (a3 m c) (a4 m c)
      (gq m c) (gk m c) (dg m c) := by
  refine (dats m 0 c).arrAt_eq_of_covers 13 _ (by decide +kernel) fun t hf y => ?_
  blk_simp
  rw [after0_13]
  obtain ⟨r, l, rfl⟩ : ∃ (r : Fin 256) (l : Fin 128), y = ix2 r l := ⟨y 0, y 1, eq_ix2 y⟩
  have hs := scratch m c t.val t rfl
  have hw := fun u => w_at (k0_pay13 (k0_pay12 (iblk m c 1 t) (iblk m c 6 t)) (iblk m c 9 t) (iblk m c 10 t)) (k0_pay14 (iblk m c 0 t))
    (k0_pay15 (F := Ideal)) (outsAt0 m c t.val t.isLt).2.1 r (spun (X m c) (gq m c) 24 (by omega) (sa t) (hd t) (tok t r))
    (fun u a => keyAll (X m c) (K1 m c) (gk m c) (sa t) (hd t) u a) (query_eq m c t r) hs.1
    (fun a u => score_real _ _ (fun d => spun_real _ _ fq _ _ _ _ _ _ d) (fun d => key_real _ _ _ fg fk _ _ _ _ d)) u
  have hm : ∀ j : Fin 128, (∑ u, k0_pay17 (k0_pay13 (k0_pay12 (iblk m c 1 t) (iblk m c 6 t)) (iblk m c 9 t) (iblk m c 10 t)) (k0_pay14 (iblk m c 0 t))
      (k0_pay15 (F := Ideal)) (outsAt0 m c t.val t.isLt).2.1 (ix2 r u) * (outsAt0 m c t.val t.isLt).2.2 (ix2 u j))
      = mixed (X m c) (K1 m c) (V1 m c) (a1 m c) (a2 m c) (a3 m c) (a4 m c) (gq m c) (gk m c) (sa t) (tok t r) (hd t) j := fun j => by
    unfold mixed
    refine Finset.sum_congr rfl fun u _ => ?_
    rw [hw u, hs.2 u j, lam_eq]
    rfl
  refine (out_eq m c t (ix2 r l)).trans ((out_at _ _ _ r l).trans ?_)
  rw [funext hm, funext fun j => (gain_at (iblk m c 8 t) j).trans (b8 m c t j)]
  refine (Reference8Ideal.Dec.out_at (X m c) (K1 m c) (V1 m c) (a1 m c) (a2 m c) (a3 m c) (a4 m c) (gq m c) (gk m c) (dg m c) (sa t) (tok t r) (hd t) l).symm.trans ?_
  blk_ext [idx_facts t]

end Cert.Kernel8Ideal.Dec
-- ==== Proof.Dec.Claims.lean ====
/-
  The claims on the sample attention: the frames, and the equality of the kernel's and the reference's results where
  the query and key gains and the cached keys are finite.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Attn.Claims
public import proofs.«01_k».proof.Proof.Dec.Final

@[expose] public section

set_option maxRecDepth 16384

noncomputable section

namespace Cert.Kernel8Ideal.Dec

open Cert.Kernel8Ideal Cert.Kernel8Ideal.Gen Idealize.ShloMosaic Idealize.ShloMosaic.TcCoe Idealize.SL.Sem

/-- The kernel ends with its output array as the grid left it and every argument as it was. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c : Thread nD τ).loc main_v67) = (dats m 0 c).arrAt 13 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)) :=
  (θ_run defs _ _).mono (fun _ h c => ⟨(h.1 c).1 13, h.2.1 c⟩) (θ_run_and (run_main m ρ) (frame m ρ))

end Cert.Kernel8Ideal.Dec

namespace Cert.Dec.Claims

open Idealize.ShloMosaic Idealize.ShloMosaic.TcCoe Idealize.SL.Sem
open Cert.Attn.Claims (real_of_abs)

/-- The side conditions that the precondition's program states. -/
theorem pre_facts : Cert.Pre_finite_keys.Facts := ⟨by decide, by decide⟩

/-- The precondition says that both gains and the cached keys are real. -/
theorem keys_real (m : (ℓ : Loc Cert.Kernel8Ideal.nD Cert.Kernel8Ideal.τ Cert.Kernel8Ideal.sig) → Buf (Elt Ideal) ℓ)
    (h : Cert.Pre_Kernel8Ideal_finite_keys (hPre_finite_keys := pre_facts) m) (c : Dev Cert.Kernel8Ideal.nD) :
    (∀ d, ∃ r : ℝ, Cert.Kernel8Ideal.Dec.gq m c (ix1 d) = r) ∧ (∀ d, ∃ r : ℝ, Cert.Kernel8Ideal.Dec.gk m c (ix1 d) = r)
    ∧ ∀ b u n k d, ∃ r : ℝ, Cert.Kernel8Ideal.Dec.K1 m c (ix5 b u n k d) = r := by
  obtain ⟨h1, h2, h3⟩ := h c
  refine ⟨fun d => ?_, fun d => ?_, fun b u n k d => ?_⟩
  · have e := congrFun h1 (ix1 d)
    revert e
    pointwise [Cert.Pre_finite_keys.fn]
    exact real_of_abs _
  · have e := congrFun h2 (ix1 d)
    revert e
    pointwise [Cert.Pre_finite_keys.fn]
    exact real_of_abs _
  · have e := congrFun h3 (ix5 b u n k d)
    revert e
    pointwise [Cert.Pre_finite_keys.fn]
    exact real_of_abs _

/-- The kernel ends with its arguments unchanged. -/
theorem frame_kernel : Cert.quiescent_Kernel8 (hKernel8 := Cert.Kernel8.Gen.facts) := fun m ρ _ => Cert.Kernel8.Gen.frame m ρ
/-- So does its idealization. -/
theorem frame_ideal : Cert.quiescent_Kernel8Ideal (hKernel8Ideal := Cert.Kernel8Ideal.Gen.facts) := fun m ρ _ => Cert.Kernel8Ideal.Gen.frame m ρ
theorem frame_ideal_pre : Cert.quiescent_Kernel8Ideal_pre_finite_keys (hKernel8Ideal := Cert.Kernel8Ideal.Gen.facts) (hPre_finite_keys := pre_facts) :=
  fun m ρ _ => Cert.Kernel8Ideal.Gen.frame m ρ
/-- So does the reference's. -/
theorem frame_ref : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem frame_ref_pre : Cert.quiescent_Reference8Ideal_pre_finite_keys (hReference8Ideal := Cert.Reference8Ideal.Gen.facts) (hPre_finite_keys := pre_facts) :=
  fun m ρ _ => frame_ref m ρ trivial
/-- No rule was used. -/
theorem preserves : Cert.preserves_Kernel8_Kernel8Ideal := trivial

/-- The kernel's result is the reference's. -/
theorem algebraic : Cert.algebraic_Kernel8Ideal_Reference8Ideal_pre_finite_keys (hKernel8Ideal := Cert.Kernel8Ideal.Gen.facts)
    (hReference8Ideal := Cert.Reference8Ideal.Gen.facts) (hPre_finite_keys := pre_facts) := by
  intro m ρ m' ρ' hpre hag
  refine ⟨fun c => (Cert.Kernel8Ideal.Gen.dats m 0 c).arrAt 13 Cert.Kernel8Ideal.cfg0.N, Cert.Kernel8Ideal.Dec.ends m ρ, ?_⟩
  refine (θ_run Cert.Reference8Ideal.defs _ _).mono (fun r h c => ?_) (Cert.Reference8Ideal.Value.run (F := Ideal) m' ρ')
  obtain ⟨g0, g1, g2, g3, g4, g5, g6, g7, g8, g9⟩ := hag c
  obtain ⟨f1, f2, f3⟩ := keys_real m hpre c
  obtain ⟨h0, hr⟩ := h c
  refine ⟨h0.trans ?_, hr⟩
  refine (Cert.Reference8Ideal.Read.val_main_v190_eq _).trans (Eq.trans ?_ (Cert.Kernel8Ideal.Dec.res_eq m c f1 f2 f3).symm)
  exact congr (congr (congr (congr (congr (congr (congr (congr (congr (congrArg Cert.Reference8Ideal.Read.val_main_v190 g0) g1) g2) g3) g4) g5) g6) g7) g8) g9

end Cert.Dec.Claims
-- ==== Proof.lean ====
module

public import proofs.«01_k».proof.Defs
public import proofs.«01_k».proof.Proof.Attn.Claims
public import proofs.«01_k».proof.Proof.Ffn.Claims
public import proofs.«01_k».proof.Proof.Proj.InOdd.Claims
public import proofs.«01_k».proof.Proof.Proj.OutOdd.Claims
public import proofs.«01_k».proof.Proof.Proj.OutEven.Claims
public import proofs.«01_k».proof.Proof.Proj.InEven.Claims
public import proofs.«01_k».proof.Proof.Ada.Claims
public import proofs.«01_k».proof.Proof.Dec.Claims

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Attn.Claims.pre_facts, Cert.Dec.Claims.pre_facts,
  Cert.Attn.Claims.frame_kernel, Cert.Attn.Claims.frame_ideal, Cert.Attn.Claims.frame_ideal_pre, Cert.Attn.Claims.frame_ref,
  Cert.Attn.Claims.frame_ref_pre,
  Cert.Ffn.Claims.frame_kernel, Cert.Ffn.Claims.frame_ideal, Cert.Ffn.Claims.frame_ref,
  Cert.Proj.InOdd.frame_kernel, Cert.Proj.InOdd.frame_ideal, Cert.Proj.InOdd.frame_ref,
  Cert.Proj.OutOdd.frame_kernel, Cert.Proj.OutOdd.frame_ideal, Cert.Proj.OutOdd.frame_ref,
  Cert.Proj.OutEven.frame_kernel, Cert.Proj.OutEven.frame_ideal, Cert.Proj.OutEven.frame_ref,
  Cert.Proj.InEven.frame_kernel, Cert.Proj.InEven.frame_ideal, Cert.Proj.InEven.frame_ref,
  Cert.Ada.frame_kernel, Cert.Ada.frame_ideal, Cert.Ada.frame_ref,
  Cert.Dec.Claims.frame_kernel, Cert.Dec.Claims.frame_ideal, Cert.Dec.Claims.frame_ideal_pre, Cert.Dec.Claims.frame_ref,
  Cert.Dec.Claims.frame_ref_pre,
  Cert.Attn.Claims.preserves, Cert.Attn.Claims.algebraic, Cert.Ffn.Claims.preserves, Cert.Ffn.Claims.algebraic,
  Cert.Proj.InOdd.preserves, Cert.Proj.InOdd.algebraic,
  Cert.Proj.OutOdd.preserves, Cert.Proj.OutOdd.algebraic,
  Cert.Proj.OutEven.preserves, Cert.Proj.OutEven.algebraic,
  Cert.Proj.InEven.preserves, Cert.Proj.InEven.algebraic,
  Cert.Ada.preserves, Cert.Ada.algebraic, Cert.Dec.Claims.preserves, Cert.Dec.Claims.algebraic⟩

end Cert.Proof

end
